-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v17) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v4)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v4) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v24) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v9_0)) (v1 : (c : Dev Cert.PrepIdeal.nD) → Buf (Elt Ideal) ((c.tc : Thread Cert.PrepIdeal.nD Cert.PrepIdeal.τ).loc Cert.PrepIdeal.main_v9_1)) (v2 : (c : Dev Cert.PrepIdeal.nD) → Buf (Elt Ideal) ((c.tc : Thread Cert.PrepIdeal.nD Cert.PrepIdeal.τ).loc Cert.PrepIdeal.main_v9_2)) (v3 : (c : Dev Cert.PrepIdeal.nD) → Buf (Elt Ideal) ((c.tc : Thread Cert.PrepIdeal.nD Cert.PrepIdeal.τ).loc Cert.PrepIdeal.main_v9_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v9_0) = v0 c
          ∧ r.2.mem ((c.tc : Thread Cert.PrepIdeal.nD Cert.PrepIdeal.τ).loc Cert.PrepIdeal.main_v9_1) = v1 c
          ∧ r.2.mem ((c.tc : Thread Cert.PrepIdeal.nD Cert.PrepIdeal.τ).loc Cert.PrepIdeal.main_v9_2) = v2 c
          ∧ r.2.mem ((c.tc : Thread Cert.PrepIdeal.nD Cert.PrepIdeal.τ).loc Cert.PrepIdeal.main_v9_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v43) = v0 c
          ∧ r.2.mem ((c.tc : Thread Cert.PrepRefIdeal.nD Cert.PrepRefIdeal.τ).loc Cert.PrepRefIdeal.main_v44) = v1 c
          ∧ r.2.mem ((c.tc : Thread Cert.PrepRefIdeal.nD Cert.PrepRefIdeal.τ).loc Cert.PrepRefIdeal.main_v46) = v2 c
          ∧ r.2.mem ((c.tc : Thread Cert.PrepRefIdeal.nD Cert.PrepRefIdeal.τ).loc Cert.PrepRefIdeal.main_v48) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMid : Cert.Mid.Facts) (hMidIdeal : Cert.MidIdeal.Facts) (hMidRefIdeal : Cert.MidRefIdeal.Facts) (hPrep : Cert.Prep.Facts) (hPrepIdeal : Cert.PrepIdeal.Facts) (hPrepRefIdeal : Cert.PrepRefIdeal.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjRefIdeal (hProjRefIdeal := hProjRefIdeal)
    ∧ quiescent_Mid (hMid := hMid)
    ∧ quiescent_MidIdeal (hMidIdeal := hMidIdeal)
    ∧ quiescent_MidRefIdeal (hMidRefIdeal := hMidRefIdeal)
    ∧ quiescent_Prep (hPrep := hPrep)
    ∧ quiescent_PrepIdeal (hPrepIdeal := hPrepIdeal)
    ∧ quiescent_PrepRefIdeal (hPrepRefIdeal := hPrepRefIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjRefIdeal (hProjIdeal := hProjIdeal) (hProjRefIdeal := hProjRefIdeal)
    ∧ preserves_Mid_MidIdeal
    ∧ algebraic_MidIdeal_MidRefIdeal (hMidIdeal := hMidIdeal) (hMidRefIdeal := hMidRefIdeal)
    ∧ preserves_Prep_PrepIdeal
    ∧ algebraic_PrepIdeal_PrepRefIdeal (hPrepIdeal := hPrepIdeal) (hPrepRefIdeal := hPrepRefIdeal)
-- ==== Kernel.lean ====
abbrev S32768x2048 : Shape := ⟨2, ![32768, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S4x1x2048 : Shape := ⟨3, ![4, 1, 2048]⟩
abbrev S1x2048 : Shape := ⟨2, ![1, 2048]⟩
abbrev S1x1x2048 : Shape := ⟨3, ![1, 1, 2048]⟩
abbrev S1x2048x1024 : Shape := ⟨3, ![1, 2048, 1024]⟩
abbrev S1x1024x2048 : Shape := ⟨3, ![1, 1024, 2048]⟩
abbrev S1024x2048 : Shape := ⟨2, ![1024, 2048]⟩
abbrev S2 : Shape := ⟨1, ![2]⟩
abbrev S1 : Shape := ⟨1, ![1]⟩
abbrev S_ : Shape := ⟨0, ![]⟩
abbrev S128x2048 : Shape := ⟨2, ![128, 2048]⟩
abbrev S128 : Shape := ⟨1, ![128]⟩
abbrev S128x1 : Shape := ⟨2, ![128, 1]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S2048, .f32⟩
  | .hbm, ⟨6, _⟩ => ⟨S4x2048x8192, .bf16⟩
  | .hbm, ⟨7, _⟩ => ⟨S4x8192x2048, .bf16⟩
  | .hbm, ⟨8, _⟩ => ⟨S4x1x2048, .f32⟩
  | .hbm, ⟨9, _⟩ => ⟨S1x2048, .f32⟩
  | .hbm, ⟨10, _⟩ => ⟨S32768x2048, .f32⟩
  | .local _ .vmem, ⟨0, _⟩ => ⟨S1x1x2048, .f32⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .bf16⟩
  | .local _ .vmem, ⟨9, _⟩ => ⟨S1024x2048, .f32⟩
  | .local _ .vmem, ⟨10, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_20 : BitVec 32 := 0#32
  c0_i32_20
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1024_i32 : BitVec 32 := 1024#32
  let v32 : BitVec 32 := Scalar.muli arg0 c1024_i32
  v32
def k0_off1 (i : grid0.Coords) : Fin 2 → Nat :=
  let arg0 : BitVec 32 := BitVec.ofNat 32 (i 0).val
  let c1024_i32 : BitVec 32 := 1024#32
  let v32 : BitVec 32 := Scalar.muli arg0 c1024_i32
  let v33 : BitVec 32 := v32
  let c0_i32_21 : BitVec 32 := 0#32
  ![v33.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c32_i32 : BitVec 32 := 32#32
  let v10 : BitVec 1 := Scalar.cmpi .slt v9 c32_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let arg0 : BitVec 32 := BitVec.ofNat 32 (i 0).val
  let c1_i32_20 : BitVec 32 := 1#32
  let v32 : BitVec 32 := Scalar.addi arg0 c1_i32_20
  let c1024_i32 : BitVec 32 := 1024#32
  let v33 : BitVec 32 := Scalar.muli v32 c1024_i32
  v33
def k0_off2 (i : grid0.Coords) : Fin 2 → Nat :=
  let arg0 : BitVec 32 := BitVec.ofNat 32 (i 0).val
  let c1_i32_20 : BitVec 32 := 1#32
  let v32 : BitVec 32 := Scalar.addi arg0 c1_i32_20
  let c1024_i32 : BitVec 32 := 1024#32
  let v33 : BitVec 32 := Scalar.muli v32 c1024_i32
  let v34 : BitVec 32 := v33
  let c0_i32_22 : BitVec 32 := 0#32
  ![v34.toNat, 0]
def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S32768x2048 : Shape := ⟨2, ![32768, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S1x2048x8192 : Shape := ⟨3, ![1, 2048, 8192]⟩
abbrev S2048x8192 : Shape := ⟨2, ![2048, 8192]⟩
abbrev S32768x8192 : Shape := ⟨2, ![32768, 8192]⟩
abbrev S1x8192x2048 : Shape := ⟨3, ![1, 8192, 2048]⟩
abbrev S8192x2048 : Shape := ⟨2, ![8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S2048, .f32⟩
  | .hbm, ⟨6, _⟩ => ⟨S32768x2048, .f32⟩
  | .hbm, ⟨7, _⟩ => ⟨S1x2048, .f32⟩
  | .hbm, ⟨8, _⟩ => ⟨S2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | .hbm, ⟨25, _⟩ => ⟨S1x2048x8192, .f32⟩
  | .hbm, ⟨26, _⟩ => ⟨S2048x8192, .f32⟩
  | .hbm, ⟨27, _⟩ => ⟨S32768x8192, .f32⟩
  | .hbm, ⟨28, _⟩ => ⟨S_, .f32⟩
  | .hbm, ⟨29, _⟩ => ⟨S32768x8192, .f32⟩
  | .hbm, ⟨30, _⟩ => ⟨S32768x8192, .f32⟩
  | .hbm, ⟨31, _⟩ => ⟨S32768x8192, .f32⟩
  | .hbm, ⟨32, _⟩ => ⟨S1x8192x2048, .f32⟩
  | .hbm, ⟨33, _⟩ => ⟨S8192x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Proj.lean ====
abbrev S32768x2048 : Shape := ⟨2, ![32768, 2048]⟩
abbrev S4x2048 : Shape := ⟨2, ![4, 2048]⟩
abbrev S4x2048x7168 : Shape := ⟨3, ![4, 2048, 7168]⟩
abbrev S4x1x2048 : Shape := ⟨3, ![4, 1, 2048]⟩
abbrev S32768x7168 : Shape := ⟨2, ![32768, 7168]⟩
abbrev S1024x2048 : Shape := ⟨2, ![1024, 2048]⟩
abbrev S1x1x2048 : Shape := ⟨3, ![1, 1, 2048]⟩
abbrev S1x2048x1792 : Shape := ⟨3, ![1, 2048, 1792]⟩
abbrev S1024x1792 : Shape := ⟨2, ![1024, 1792]⟩
abbrev S1x2048 : Shape := ⟨2, ![1, 2048]⟩
abbrev S1024 : Shape := ⟨1, ![1024]⟩
abbrev S1024x1 : Shape := ⟨2, ![1024, 1]⟩
abbrev S2048x1792 : Shape := ⟨2, ![2048, 1792]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x7168, .f32⟩
  | .hbm, ⟨3, _⟩ => ⟨S4x1x2048, .f32⟩
  | .hbm, ⟨4, _⟩ => ⟨S4x2048x7168, .bf16⟩
  | .hbm, ⟨5, _⟩ => ⟨S32768x7168, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1792, .bf16⟩
  | .local _ .vmem, ⟨4, _⟩ => ⟨S1x2048x1792, .bf16⟩
  | .local _ .vmem, ⟨5, _⟩ => ⟨S1024x1792, .f32⟩
  | .local _ .vmem, ⟨6, _⟩ => ⟨S1024x1792, .f32⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S32768x2048 : Shape := ⟨2, ![32768, 2048]⟩
abbrev S4x2048 : Shape := ⟨2, ![4, 2048]⟩
abbrev S4x2048x7168 : Shape := ⟨3, ![4, 2048, 7168]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x7168 : Shape := ⟨3, ![1, 2048, 7168]⟩
abbrev S2048x7168 : Shape := ⟨2, ![2048, 7168]⟩
abbrev S32768x7168 : Shape := ⟨2, ![32768, 7168]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x7168, .f32⟩
  | .hbm, ⟨3, _⟩ => ⟨S1x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x7168, .f32⟩
  | .hbm, ⟨22, _⟩ => ⟨S2048x7168, .f32⟩
  | .hbm, ⟨23, _⟩ => ⟨S32768x7168, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Mid.lean ====
abbrev S32768x2048 : Shape := ⟨2, ![32768, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S4x1x2048 : Shape := ⟨3, ![4, 1, 2048]⟩
abbrev S1x2048 : Shape := ⟨2, ![1, 2048]⟩
abbrev S1x1x2048 : Shape := ⟨3, ![1, 1, 2048]⟩
abbrev S1x2048x1024 : Shape := ⟨3, ![1, 2048, 1024]⟩
abbrev S1x1024x2048 : Shape := ⟨3, ![1, 1024, 2048]⟩
abbrev S1024x2048 : Shape := ⟨2, ![1024, 2048]⟩
abbrev S2 : Shape := ⟨1, ![2]⟩
abbrev S1 : Shape := ⟨1, ![1]⟩
abbrev S_ : Shape := ⟨0, ![]⟩
abbrev S128x2048 : Shape := ⟨2, ![128, 2048]⟩
abbrev S128 : Shape := ⟨1, ![128]⟩
abbrev S128x1 : Shape := ⟨2, ![128, 1]⟩
abbrev S2048x1024 : Shape := ⟨2, ![2048, 1024]⟩
abbrev S1024x1024 : Shape := ⟨2, ![1024, 1024]⟩

abbrev nBuf : Space → Nat
  | .hbm => 11
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S2048, .f32⟩
  | .hbm, ⟨6, _⟩ => ⟨S4x2048x8192, .bf16⟩
  | .hbm, ⟨7, _⟩ => ⟨S4x8192x2048, .bf16⟩
  | .hbm, ⟨8, _⟩ => ⟨S4x1x2048, .f32⟩
  | .hbm, ⟨9, _⟩ => ⟨S1x2048, .f32⟩
  | .hbm, ⟨10, _⟩ => ⟨S32768x2048, .f32⟩
  | .local _ .vmem, ⟨0, _⟩ => ⟨S1x1x2048, .f32⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .bf16⟩
  | .local _ .vmem, ⟨9, _⟩ => ⟨S1024x2048, .f32⟩
  | .local _ .vmem, ⟨10, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_19 : BitVec 32 := 0#32
  c0_i32_19
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1024_i32 : BitVec 32 := 1024#32
  let v29 : BitVec 32 := Scalar.muli arg0 c1024_i32
  v29
def k0_off1 (i : grid0.Coords) : Fin 2 → Nat :=
  let arg0 : BitVec 32 := BitVec.ofNat 32 (i 0).val
  let c1024_i32 : BitVec 32 := 1024#32
  let v29 : BitVec 32 := Scalar.muli arg0 c1024_i32
  let v30 : BitVec 32 := v29
  let c0_i32_20 : BitVec 32 := 0#32
  ![v30.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c32_i32 : BitVec 32 := 32#32
  let v10 : BitVec 1 := Scalar.cmpi .slt v9 c32_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let arg0 : BitVec 32 := BitVec.ofNat 32 (i 0).val
  let c1_i32_19 : BitVec 32 := 1#32
  let v29 : BitVec 32 := Scalar.addi arg0 c1_i32_19
  let c1024_i32 : BitVec 32 := 1024#32
  let v30 : BitVec 32 := Scalar.muli v29 c1024_i32
  v30
def k0_off2 (i : grid0.Coords) : Fin 2 → Nat :=
  let arg0 : BitVec 32 := BitVec.ofNat 32 (i 0).val
  let c1_i32_19 : BitVec 32 := 1#32
  let v29 : BitVec 32 := Scalar.addi arg0 c1_i32_19
  let c1024_i32 : BitVec 32 := 1024#32
  let v30 : BitVec 32 := Scalar.muli v29 c1024_i32
  let v31 : BitVec 32 := v30
  let c0_i32_21 : BitVec 32 := 0#32
  ![v31.toNat, 0]
def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MidRefIdeal.lean ====
abbrev S32768x2048 : Shape := ⟨2, ![32768, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S1x2048x8192 : Shape := ⟨3, ![1, 2048, 8192]⟩
abbrev S2048x8192 : Shape := ⟨2, ![2048, 8192]⟩
abbrev S32768x8192 : Shape := ⟨2, ![32768, 8192]⟩
abbrev S1x8192x2048 : Shape := ⟨3, ![1, 8192, 2048]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S2048, .f32⟩
  | .hbm, ⟨6, _⟩ => ⟨S32768x2048, .f32⟩
  | .hbm, ⟨7, _⟩ => ⟨S1x2048, .f32⟩
  | .hbm, ⟨8, _⟩ => ⟨S2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | .hbm, ⟨25, _⟩ => ⟨S1x2048x8192, .f32⟩
  | .hbm, ⟨26, _⟩ => ⟨S2048x8192, .f32⟩
  | .hbm, ⟨27, _⟩ => ⟨S32768x8192, .f32⟩
  | .hbm, ⟨28, _⟩ => ⟨S_, .f32⟩
  | .hbm, ⟨29, _⟩ => ⟨S32768x8192, .f32⟩
  | .hbm, ⟨30, _⟩ => ⟨S32768x8192, .f32⟩
  | .hbm, ⟨31, _⟩ => ⟨S32768x8192, .f32⟩
  | .hbm, ⟨32, _⟩ => ⟨S1x8192x2048, .f32⟩
  | .hbm, ⟨33, _⟩ => ⟨S8192x2048, .f32⟩
  | .hbm, ⟨34, _⟩ => ⟨S32768x2048, .f32⟩
  | .hbm, ⟨35, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Prep.lean ====
abbrev S4x64x64 : Shape := ⟨3, ![4, 64, 64]⟩
abbrev S4x64 : Shape := ⟨2, ![4, 64]⟩
abbrev S4x64x64x16 : Shape := ⟨4, ![4, 64, 64, 16]⟩
abbrev S4x1x4096 : Shape := ⟨3, ![4, 1, 4096]⟩
abbrev S4x64x1 : Shape := ⟨3, ![4, 64, 1]⟩
abbrev S4x4096x16 : Shape := ⟨3, ![4, 4096, 16]⟩
abbrev S4x16x4096 : Shape := ⟨3, ![4, 16, 4096]⟩
abbrev S1x1x4096 : Shape := ⟨3, ![1, 1, 4096]⟩
abbrev S1x16x4096 : Shape := ⟨3, ![1, 16, 4096]⟩
abbrev S1x4096 : Shape := ⟨2, ![1, 4096]⟩
abbrev S16x4096 : Shape := ⟨2, ![16, 4096]⟩

abbrev nBuf : Space → Nat
  | .hbm => 18
  | .vmem => 18
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64, .f32⟩
  | .hbm, ⟨3, _⟩ => ⟨S4x64x64x16, .f32⟩
  | .hbm, ⟨4, _⟩ => ⟨S4x64x64x16, .f32⟩
  | .hbm, ⟨5, _⟩ => ⟨S4x1x4096, .f32⟩
  | .hbm, ⟨6, _⟩ => ⟨S4x1x4096, .f32⟩
  | .hbm, ⟨7, _⟩ => ⟨S4x64x1, .f32⟩
  | .hbm, ⟨8, _⟩ => ⟨S4x64x64, .f32⟩
  | .hbm, ⟨9, _⟩ => ⟨S4x1x4096, .f32⟩
  | .hbm, ⟨10, _⟩ => ⟨S4x4096x16, .f32⟩
  | .hbm, ⟨11, _⟩ => ⟨S4x16x4096, .f32⟩
  | .hbm, ⟨12, _⟩ => ⟨S4x4096x16, .f32⟩
  | .hbm, ⟨13, _⟩ => ⟨S4x16x4096, .f32⟩
  | .hbm, ⟨14, _⟩ => ⟨S4x1x4096, .f32⟩
  | .hbm, ⟨15, _⟩ => ⟨S4x1x4096, .f32⟩
  | .hbm, ⟨16, _⟩ => ⟨S4x16x4096, .f32⟩
  | .hbm, ⟨17, _⟩ => ⟨S4x16x4096, .f32⟩
  | .local _ .vmem, ⟨0, _⟩ => ⟨S1x1x4096, .f32⟩
  | .local _ .vmem, ⟨1, _⟩ => ⟨S1x1x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x16x4096, .f32⟩
  | .local _ .vmem, ⟨7, _⟩ => ⟨S1x16x4096, .f32⟩
  | .local _ .vmem, ⟨8, _⟩ => ⟨S1x16x4096, .f32⟩
  | .local _ .vmem, ⟨9, _⟩ => ⟨S1x16x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x16x4096, .f32⟩
  | .local _ .vmem, ⟨15, _⟩ => ⟨S1x16x4096, .f32⟩
  | .local _ .vmem, ⟨16, _⟩ => ⟨S1x16x4096, .f32⟩
  | .local _ .vmem, ⟨17, _⟩ => ⟨S1x16x4096, .f32⟩
  | _, _ => ⟨S4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepRefIdeal.lean ====
abbrev S4x64x64 : Shape := ⟨3, ![4, 64, 64]⟩
abbrev S4x64 : Shape := ⟨2, ![4, 64]⟩
abbrev S4x64x64x16 : Shape := ⟨4, ![4, 64, 64, 16]⟩
abbrev S4x64x1 : Shape := ⟨3, ![4, 64, 1]⟩
abbrev S_ : Shape := ⟨0, ![]⟩
abbrev S4x64x64x1 : Shape := ⟨4, ![4, 64, 64, 1]⟩
abbrev S4x1x4096 : Shape := ⟨3, ![4, 1, 4096]⟩
abbrev S4x4096x16 : Shape := ⟨3, ![4, 4096, 16]⟩
abbrev S4x16x4096 : Shape := ⟨3, ![4, 16, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64, .f32⟩
  | .hbm, ⟨3, _⟩ => ⟨S4x64x64x16, .f32⟩
  | .hbm, ⟨4, _⟩ => ⟨S4x64x64x16, .f32⟩
  | .hbm, ⟨5, _⟩ => ⟨S4x64, .f32⟩
  | .hbm, ⟨6, _⟩ => ⟨S4x64x1, .f32⟩
  | .hbm, ⟨7, _⟩ => ⟨S4x64x64, .f32⟩
  | .hbm, ⟨8, _⟩ => ⟨S4x64x64, .f32⟩
  | .hbm, ⟨9, _⟩ => ⟨S4x64x64, .f32⟩
  | .hbm, ⟨10, _⟩ => ⟨S4x64x64, .f32⟩
  | .hbm, ⟨11, _⟩ => ⟨S4x64x64, .f32⟩
  | .hbm, ⟨12, _⟩ => ⟨S4x64x64, .f32⟩
  | .hbm, ⟨13, _⟩ => ⟨S4x64x64, .f32⟩
  | .hbm, ⟨14, _⟩ => ⟨S4x64x64, .f32⟩
  | .hbm, ⟨15, _⟩ => ⟨S4x64x64, .f32⟩
  | .hbm, ⟨16, _⟩ => ⟨S4x64x64, .f32⟩
  | .hbm, ⟨17, _⟩ => ⟨S4x64x64, .f32⟩
  | .hbm, ⟨18, _⟩ => ⟨S4x64x64, .f32⟩
  | .hbm, ⟨19, _⟩ => ⟨S4x64x64, .f32⟩
  | .hbm, ⟨20, _⟩ => ⟨S4x64x64, .f32⟩
  | .hbm, ⟨21, _⟩ => ⟨S4x64x64, .f32⟩
  | .hbm, ⟨22, _⟩ => ⟨S4x64x64, .f32⟩
  | .hbm, ⟨23, _⟩ => ⟨S4x64x64, .f32⟩
  | .hbm, ⟨24, _⟩ => ⟨S_, .f32⟩
  | .hbm, ⟨25, _⟩ => ⟨S4x64x64, .f32⟩
  | .hbm, ⟨26, _⟩ => ⟨S4x64x64, .f32⟩
  | .hbm, ⟨27, _⟩ => ⟨S4x64x64, .f32⟩
  | .hbm, ⟨28, _⟩ => ⟨S4x64x64, .f32⟩
  | .hbm, ⟨29, _⟩ => ⟨S4x64x64, .f32⟩
  | .hbm, ⟨30, _⟩ => ⟨S4x64x64, .f32⟩
  | .hbm, ⟨31, _⟩ => ⟨S4x64x64x1, .f32⟩
  | .hbm, ⟨32, _⟩ => ⟨S4x64x64, .f32⟩
  | .hbm, ⟨33, _⟩ => ⟨S_, .f32⟩
  | .hbm, ⟨34, _⟩ => ⟨S4x64x64, .f32⟩
  | .hbm, ⟨35, _⟩ => ⟨S4x64x64, .f32⟩
  | .hbm, ⟨36, _⟩ => ⟨S4x64x64, .f32⟩
  | .hbm, ⟨37, _⟩ => ⟨S4x64x64, .f32⟩
  | .hbm, ⟨38, _⟩ => ⟨S4x64x64, .f32⟩
  | .hbm, ⟨39, _⟩ => ⟨S4x64x64x1, .f32⟩
  | .hbm, ⟨40, _⟩ => ⟨S4x64x64x16, .f32⟩
  | .hbm, ⟨41, _⟩ => ⟨S4x64x64x16, .f32⟩
  | .hbm, ⟨42, _⟩ => ⟨S4x64x64x16, .f32⟩
  | .hbm, ⟨43, _⟩ => ⟨S4x64x64x16, .f32⟩
  | .hbm, ⟨44, _⟩ => ⟨S4x64x64x16, .f32⟩
  | .hbm, ⟨45, _⟩ => ⟨S4x64x64x16, .f32⟩
  | .hbm, ⟨46, _⟩ => ⟨S4x64x64x16, .f32⟩
  | .hbm, ⟨47, _⟩ => ⟨S4x64x64x16, .f32⟩
  | .hbm, ⟨48, _⟩ => ⟨S4x64x64x16, .f32⟩
  | .hbm, ⟨49, _⟩ => ⟨S4x64x64x16, .f32⟩
  | .hbm, ⟨50, _⟩ => ⟨S4x1x4096, .f32⟩
  | .hbm, ⟨51, _⟩ => ⟨S4x1x4096, .f32⟩
  | .hbm, ⟨52, _⟩ => ⟨S4x4096x16, .f32⟩
  | .hbm, ⟨53, _⟩ => ⟨S4x16x4096, .f32⟩
  | .hbm, ⟨54, _⟩ => ⟨S4x4096x16, .f32⟩
  | .hbm, ⟨55, _⟩ => ⟨S4x16x4096, .f32⟩
  | _, _ => ⟨S4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩

abbrev nD : Nat := 1
abbrev τ : Topo := Topo.v7x

variable {F : FTy → Type} [FloatOps F]
-- ==== Proof.Rows.lean ====
/- The normalised row: what both programs compute of one row of activations before a matrix product. Nothing here
   mentions a program; the two value proofs and the two references are read against it. -/
module

public import Idealize.ShloMosaic.Lib.Pointwise
public import Idealize.ShloMosaic.PureOps.Ideal.Laws

@[expose] public section

noncomputable section

namespace Cert.Rows

open Idealize.ShloMosaic
open scoped BigOperators

/-- The reciprocal root of a row's mean square (2048 entries) plus the small constant. -/
def scale (x : Fin 2048 → EReal) : EReal :=
  Ideal.rsqrt (Ideal.div (∑ k : Fin 2048, x k * x k) (Ideal.ofBits .f32 0x45000000#32) + Ideal.ofBits .f32 0x358637BD#32)

/-- Entry `d` of the row scaled to unit mean square, times the gain there. -/
def nrm (x g : Fin 2048 → EReal) (d : Fin 2048) : EReal := x d * scale x * g d

/-- One activation: the row's product with a weight column, its negative part dropped, squared. -/
def act (h w : Fin 2048 → EReal) : EReal :=
  max (∑ k : Fin 2048, h k * w k) 0 * max (∑ k : Fin 2048, h k * w k) 0

/-- Entry `p` of a row after the feed-forward layer: the row's entry plus the 8192 activations of the normalised row times
    their weights. -/
def ffn (x g : Fin 2048 → EReal) (w1 : Fin 2048 → Fin 8192 → EReal) (w2 : Fin 8192 → Fin 2048 → EReal) (p : Fin 2048) : EReal :=
  x p + ∑ j : Fin 8192, act (nrm x g) (fun k => w1 k j) * w2 j p

end Cert.Rows

end
-- ==== Proof.ProjPay.lean ====
/- The projection kernel's two stores, read entry by entry over the extended reals: the normalised rows it keeps in
   scratch, and the product it writes out. -/
module

public import proofs.«01_k».proof.Proof.Rows
public import proofs.«01_k».proof.Proof.Gen.ProjIdeal.Skeleton

@[expose] public section

set_option maxRecDepth 16384

noncomputable section

namespace Cert.ProjIdeal.Tile

open Cert.ProjIdeal Cert.ProjIdeal.Gen Idealize.ShloMosaic
open scoped BigOperators

/-- The scratch store: row `r`, entry `d` is the normalised row of the input block at `d`. -/
theorem pay1_apply (x : Vec Ideal S1024x2048 .f32) (g : Vec Ideal S1x1x2048 .f32) (r : Fin 1024) (d : Fin 2048) :
    k0_pay1 (F := Ideal) x g (ix2 r d) = Rows.nrm (fun k => x (ix2 r k)) (fun k => g (ix3 0 0 k)) d := by
  pointwise [k0_pay1, Rows.nrm, Rows.scale]

/-- The output store: row `r`, column `c` is the scratch row times the weight column. -/
theorem pay2_apply (h : Vec Ideal S1024x2048 .bf16) (w : Vec Ideal S1x2048x1792 .bf16) (r : Fin 1024) (c : Fin 1792) :
    k0_pay2 (F := Ideal) h w (ix2 r c) = ∑ k : Fin 2048, h (ix2 r k) * w (ix3 0 k c) := by
  pointwise [k0_pay2]

end Cert.ProjIdeal.Tile

end
-- ==== Proof.ProjValue.lean ====
/- The projection kernel's result array, entry by entry: what each grid point leaves in the scratch and in the output
   block, then the array those blocks tile. -/
module

public import proofs.«01_k».proof.Proof.ProjPay
public import proofs.«01_k».proof.Proof.Gen.ProjIdeal.Value

@[expose] public section

set_option maxRecDepth 16384

noncomputable section

namespace Cert.ProjIdeal.Tile

open Cert.ProjIdeal Cert.ProjIdeal.Gen Cert.ProjIdeal.Value Idealize.ShloMosaic Idealize.ShloMosaic.TcCoe Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

section Cases
variable {F : FTy → Type} [FloatOps F]
variable (c : Dev nD) (i : grid0.Coords) (a2 : Memref sig .tc .vmem S1024x2048 .f32) (h2 : a2.IsWhole)
  (a3 : Memref sig .tc .vmem S1x1x2048 .f32) (h3 : a3.IsWhole) (a4 : Memref sig .tc .vmem S1x2048x1792 .bf16) (h4 : a4.IsWhole)
  (a5 : Memref sig .tc .vmem S1024x1792 .f32) (h5 : a5.IsWhole) (a6 : Memref sig .tc .vmem S1024x2048 .bf16) (h6 : a6.IsWhole)
  (x0 : Vec F S1024x2048 .f32) (x1 : Vec F S1x1x2048 .f32) (x2 : Vec F S1x2048x1792 .bf16) (xs : Vec F S1024x2048 .bf16)

/-- At the first column block of a row block the scratch is left holding the normalised rows. -/
theorem sout_A (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, View.ld_unit_zero (S := S1024x2048) hz2, View.ld_unit_zero (S := S1x1x2048) hz3]

/-- There the output block is the product of those rows with the weight block. -/
theorem out_A (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2, View.readCov_unit_zero (S := S1024x2048) _ hz2]
  simp only [View.readAt_eq_ld, h2.read_unread, h3.read_unread, h4.read_unread, View.ld_unit_zero (S := S1024x2048) hz2, View.ld_unit_zero (S := S1x1x2048) hz3, View.ld_unit_zero (S := S1x2048x1792) hz3]

/-- At the later column blocks the output block is the product of the kept rows with the weight block. -/
theorem out_B (hc : ¬cond0_0 i) : out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz2]
  simp only [View.readAt_eq_ld, h4.read_unread, h6.read_unread, View.ld_unit_zero (S := S1024x2048) hz2, View.ld_unit_zero (S := S1x2048x1792) hz3]

end Cases

variable (m : (ℓ : Loc nD τ sig) → Buf (Elt Ideal) ℓ)

/-- The three input windows' block indices at a grid point. -/
theorem idx_in : ∀ t : Fin cfg0.N, win0_0.index t (0 : Fin 2) = t.val / 4 ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = t.val % 4 :=
  (by decide +kernel : ∀ t : Fin grid0.N, _)

/-- The gain array the region reads is the gain argument, laid with a unit axis in the middle. -/
theorem V_gain (c : Dev nD) (l : Fin 4) (k : Fin 2048) : V m c main_v0 (ix3 l 0 k) = m ((c : Thread nD τ).loc main_arg1) (ix2 l k) := by
  have h : V m c main_v0 = broadcastInDim S4x1x2048 ![0, 2] bcast_S4x2048_S4x1x2048_0_2 (m ((c : Thread nD τ).loc main_arg1)) := by
    unfold V hostOps0; after_results
  rw [h]
  pointwise

/-- The weight array the region reads is the weight argument (a change of format only). -/
theorem V_weight (c : Dev nD) (i : S4x2048x7168.Idx) : V m c main_v1 i = m ((c : Thread nD τ).loc main_arg2) i := by
  have h : V m c main_v1 = (truncf .bf16 (m ((c : Thread nD τ).loc main_arg2) : FVec Ideal S4x2048x7168 .f32) bitsLt_bf16_f32 : FVec Ideal S4x2048x7168 .bf16) := by
    unfold V hostOps0; after_results
  rw [h]
  rfl

/-- Row block `t / 4` of the activations. -/
theorem iblk0_apply (c : Dev nD) (t : Fin cfg0.N) (r : Fin 1024) (k : Fin 2048) (q : Fin 32768) (hq : q.val = t.val / 4 * 1024 + r.val) :
    (iblk m c 0 t : Vec Ideal S1024x2048 .f32) (ix2 r k) = m ((c : Thread nD τ).loc main_arg0) (ix2 q k) := by
  obtain ⟨e0, e1, -⟩ := idx_in t
  unfold iblk
  rw [View.read_apply]
  show V m c main_arg0 _ = _
  rw [V_main_arg0]
  congr 1
  funext a
  apply Fin.ext
  match a with
  | ⟨0, _⟩ => show win0_0.index t (0 : Fin 2) * 1024 + 1 * r.val = q.val; rw [e0, hq]; omega
  | ⟨1, _⟩ => show win0_0.index t (1 : Fin 2) * 2048 + 1 * k.val = k.val; rw [e1]; omega

/-- The layer's gain row. -/
theorem iblk1_apply (c : Dev nD) (t : Fin cfg0.N) (k : Fin 2048) :
    (iblk m c 1 t : Vec Ideal S1x1x2048 .f32) (ix3 0 0 k) = m ((c : Thread nD τ).loc main_arg1) (ix2 0 k) := by
  obtain ⟨-, -, e0, e1, e2, -⟩ := idx_in t
  unfold iblk
  rw [View.read_apply]
  rw [← V_gain m c 0 k]
  show V m c main_v0 _ = _
  congr 1
  funext a
  apply Fin.ext
  match a with
  | ⟨0, _⟩ => show win0_1.index t (0 : Fin 3) * 1 + 1 * 0 = 0; rw [e0]
  | ⟨1, _⟩ => show win0_1.index t (1 : Fin 3) * 1 + 1 * 0 = 0; rw [e1]
  | ⟨2, _⟩ => show win0_1.index t (2 : Fin 3) * 2048 + 1 * k.val = k.val; rw [e2]; omega

/-- Column block `t % 4` of the layer's weights. -/
theorem iblk2_apply (c : Dev nD) (t : Fin cfg0.N) (k : Fin 2048) (y : Fin 1792) (q : Fin 7168) (hq : q.val = t.val % 4 * 1792 + y.val) :
    (iblk m c 2 t : Vec Ideal S1x2048x1792 .bf16) (ix3 0 k y) = m ((c : Thread nD τ).loc main_arg2) (ix3 0 k q) := by
  obtain ⟨-, -, -, -, -, e0, e1, e2⟩ := idx_in t
  unfold iblk
  rw [View.read_apply]
  rw [← V_weight m c]
  show V m c main_v1 _ = _
  congr 1
  funext a
  apply Fin.ext
  match a with
  | ⟨0, _⟩ => show win0_2.index t (0 : Fin 3) * 1 + 1 * 0 = 0; rw [e0]
  | ⟨1, _⟩ => show win0_2.index t (1 : Fin 3) * 2048 + 1 * k.val = k.val; rw [e1]; omega
  | ⟨2, _⟩ => show win0_2.index t (2 : Fin 3) * 1792 + 1 * y.val = q.val; rw [e2, hq]; omega

/-- The normalised entry of row `q` of the activations at `k`. -/
abbrev hid (c : Dev nD) (q : Fin 32768) (k : Fin 2048) : EReal :=
  Rows.nrm (fun k => m ((c : Thread nD τ).loc main_arg0) (ix2 q k)) (fun k => m ((c : Thread nD τ).loc main_arg1) (ix2 0 k)) k

/-- After every point the scratch holds the normalised rows of the point's row block. -/
theorem scratch_apply (c : Dev nD) (r : Fin 1024) (k : Fin 2048) : ∀ (n : ℕ) (h : n < cfg0.N) (q : Fin 32768), q.val = n / 4 * 1024 + r.val →
    (outsAt0 m c n h).2 (ix2 r k) = hid m c q k := by
  have base : ∀ (n : ℕ) (h : n < cfg0.N) (q : Fin 32768), q.val = n / 4 * 1024 + r.val → n % 4 = 0 →
      (outsAt0 m c n h).2 (ix2 r k) = hid m c q k := by
    intro n h q hq h0
    rw [outsAt0_A m c ⟨n, h⟩ h0]
    dsimp only
    rw [sout_A, pay1_apply]
    simp only [iblk1_apply, iblk0_apply m c ⟨n, h⟩ r _ q hq]
  intro n
  induction n with
  | zero => intro h q hq; exact base 0 h q hq rfl
  | succ n ih =>
    intro h q hq
    by_cases h0 : (n + 1) % 4 = 0
    · exact base _ h q hq h0
    · rw [outsAt0_B m c ⟨n + 1, h⟩ h0]
      exact ih (Nat.lt_of_succ_lt h) q (by rw [hq]; congr 2; omega)

/-- After every point the output block holds the product of those rows with the point's weight block. -/
theorem out_apply (c : Dev nD) (t : Fin cfg0.N) (r : Fin 1024) (y : Fin 1792) (q : Fin 32768) (hq : q.val = t.val / 4 * 1024 + r.val)
    (p : Fin 7168) (hp : p.val = t.val % 4 * 1792 + y.val) :
    (outsAt0 m c t.val t.isLt).1 (ix2 r y) = ∑ k : Fin 2048, hid m c q k * m ((c : Thread nD τ).loc main_arg2) (ix3 0 k p) := by
  by_cases h0 : t.val % 4 = 0
  · rw [outsAt0_A m c t h0]
    dsimp only
    rw [out_A, pay2_apply]
    refine Finset.sum_congr rfl fun k _ => ?_
    rw [iblk2_apply m c t k y p hp, pay1_apply]
    simp only [iblk1_apply, iblk0_apply m c t r _ q hq]
  · rw [outsAt0_B m c t h0]
    dsimp only
    rw [out_B, pay2_apply]
    refine Finset.sum_congr rfl fun k _ => ?_
    rw [iblk2_apply m c t k y p hp, scratch_apply m c r k _ _ q (by rw [hq]; congr 2; omega)]

/-- The result: row `q`, column `p` is the normalised row times the weight column. -/
def result (c : Dev nD) : Buf (Elt Ideal) ((c : Thread nD τ).loc main_v2) := fun i : S32768x7168.Idx =>
  (∑ k : Fin 2048, hid m c (i 0) k * (m ((c : Thread nD τ).loc main_arg2) (ix3 0 k (i 1)) : EReal) : EReal)

/-- What a point writes back is its block of `result`. -/
theorem flushed_eq (c : Dev nD) (t : Fin cfg0.N) :
    (dats m 0 c).flushed 3 t = ((cfg0.win 3).blk t).view.read (Elt Ideal) (result m c) := by
  rw [flushed3]
  obtain ⟨e0, e1, e2⟩ := idx_facts3 t
  funext y
  obtain ⟨r, y, rfl⟩ : ∃ (r : Fin 1024) (z : Fin 1792), y = ix2 r z := ⟨y 0, y 1, eq_ix2 y⟩
  have ht := t.isLt
  have hN : cfg0.N = 128 := N_0
  rw [View.read_apply]
  unfold result
  show (outsAt0 m c t.val t.isLt).1 (ix2 r y) = _
  refine out_apply m c t r y _ ?_ _ ?_
  · show win0_3.index t (0 : Fin 2) * 1024 + 1 * r.val = _; omega
  · show win0_3.index t (1 : Fin 2) * 1792 + 1 * y.val = _; omega

/-- The kernel's run at the extended reals: the result array is `result`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t _ => flushed_eq m c t)
      (fun i => (covered_iff3 i).2 (by
        have h0 : (i 0).val < 32768 := (i 0).isLt; have h1 : (i 1).val < 7168 := (i 1).isLt; omega))), (h c).2⟩)
    (run_blocks m ρ)

end Cert.ProjIdeal.Tile

end
-- ==== Proof.ProjRef.lean ====
/- The projection's reference, read entry by entry over the extended reals. -/
module

public import proofs.«01_k».proof.Proof.Rows
public import proofs.«01_k».proof.Proof.Gen.ProjRefIdeal.Read

@[expose] public section

set_option maxRecDepth 16384

noncomputable section

namespace Cert.ProjRefIdeal.Tile

open Cert.ProjRefIdeal Cert.ProjRefIdeal.Gen Cert.ProjRefIdeal.Read Idealize.ShloMosaic
open scoped BigOperators

/-- Row `q`, column `p` of the reference's result is the normalised row times the weight column. -/
theorem result_apply (x : Vec Ideal S32768x2048 .f32) (g : Vec Ideal S4x2048 .f32) (w : Vec Ideal S4x2048x7168 .f32) (q : Fin 32768) (p : Fin 7168) :
    val_main_v17 (F := Ideal) x g w (ix2 q p)
      = ∑ k : Fin 2048, Rows.nrm (fun k => x (ix2 q k)) (fun k => g (ix2 0 k)) k * w (ix3 0 k p) := by
  pointwise [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst,
    val_main_cst_0, val_main_cst_1, Rows.nrm, Rows.scale]

end Cert.ProjRefIdeal.Tile

end
-- ==== Proof.ProjClaim.lean ====
/- The projection's value claim: over the extended reals the kernel and its reference end with one array. -/
module

public import proofs.«01_k».proof.Defs
public import proofs.«01_k».proof.Proof.ProjValue
public import proofs.«01_k».proof.Proof.ProjRef
public import Idealize.ShloMosaic.Lib.Quiescent

@[expose] public section

set_option maxRecDepth 16384

noncomputable section

namespace Cert.Proof

open Idealize.ShloMosaic Idealize.SL.Sem

/-- From memories that agree on the arguments the projection kernel and its reference end with equal results. -/
theorem algebraic_proj : Cert.algebraic_ProjIdeal_ProjRefIdeal := by
  intro m g m' g' _ hagree
  refine ⟨fun c => ProjIdeal.Tile.result m c, ProjIdeal.Tile.run m g, ?_⟩
  refine (θ_run _ _ _).mono (fun r h c => ⟨(h c).1.trans ?_, (h c).2⟩) (ProjRefIdeal.Value.run (F := Ideal) m' g')
  obtain ⟨h0, h1, h2⟩ := hagree c
  rw [h0, h1, h2]
  refine (ProjRefIdeal.Read.val_main_v17_eq _ _ _).trans ?_
  funext i
  obtain ⟨q, p, rfl⟩ : ∃ (q : Fin 32768) (p : Fin 7168), i = ix2 q p := ⟨i 0, i 1, eq_ix2 i⟩
  exact ProjRefIdeal.Tile.result_apply _ _ _ q p

/-- The reference terminates with its arguments unchanged and no semaphore counted up (it declares none). -/
theorem frame_projRef : Cert.quiescent_ProjRefIdeal := fun m g _ =>
  (θ_run _ _ _).mono (fun r h => ⟨fun c => (h c).2, sem_eq_zero_of_no_sems rfl r.2⟩) (ProjRefIdeal.Value.run (F := Ideal) m g)

end Cert.Proof

end
-- ==== Proof.MlpBase.lean ====
/-
  The feed-forward call's kernel, at any values: what its body holds and moves, named once. The residual stream `x` and
  the mixer's output stay in HBM; the body copies the row block it needs of each into a scratch of its own, the copies of
  the next row block being started at the second point of a row block's eight and waited for at the first point of the
  next row block's.
-/
module

public import proofs.«01_k».proof.Proof.Gen.KernelIdeal.Frame
public import proofs.«01_k».proof.Proof.Gen.KernelIdeal.Skeleton

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

set_option maxHeartbeats 800000 in
/-- @main up to the region, at this algebra: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- A window that is only read holds its block at every point. -/
theorem found0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Which of the body's four conditions holds at a point -/

abbrev first (i : grid0.Coords) : Prop := k0_cond1 i = 1#1
abbrev opens (i : grid0.Coords) : Prop := k0_cond2 i = 1#1
abbrev starts (i : grid0.Coords) : Prop := k0_cond3 i = 1#1
abbrev closes (i : grid0.Coords) : Prop :=
  Scalar.cmpi .ne (Scalar.extui (Scalar.cmpi .eq (BitVec.ofNat 32 (i 1).val) 7#32) : BitVec 32) 0#32 = 1#1

/-- The very first point. -/
theorem first_iff : ∀ t : Fin cfg0.N, first (grid0.coords t) ↔ t.val = 0 :=
  (by decide +kernel : ∀ t : Fin grid0.N, first (grid0.coords t) ↔ t.val = 0)
/-- The first point of a row block. -/
theorem opens_iff : ∀ t : Fin cfg0.N, opens (grid0.coords t) ↔ t.val % 8 = 0 :=
  (by decide +kernel : ∀ t : Fin grid0.N, opens (grid0.coords t) ↔ t.val % 8 = 0)
/-- The second point of a row block that is not the last. -/
theorem starts_iff : ∀ t : Fin cfg0.N, starts (grid0.coords t) ↔ t.val % 8 = 1 ∧ t.val < 248 :=
  (by decide +kernel : ∀ t : Fin grid0.N, starts (grid0.coords t) ↔ t.val % 8 = 1 ∧ t.val < 248)
/-- The last point of a row block. -/
theorem closes_iff : ∀ t : Fin cfg0.N, closes (grid0.coords t) ↔ t.val % 8 = 7 :=
  (by decide +kernel : ∀ t : Fin grid0.N, closes (grid0.coords t) ↔ t.val % 8 = 7)

/-! ## What the body is called with -/

abbrev ms0 (t : Fin cfg0.N) : Memref sig .tc .vmem S1x1x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x2048 .f32 := win0_4.stage (cfg0.slots t 4)
abbrev hs4 (t : Fin cfg0.N) : (ms4 t).IsWhole := hstage0_4 ((cfg0.slots t 4).cast nbuf0_4)
/-- The scratch: the normalised rows, and the landing places of the two copies. -/
abbrev scH : Memref sig .tc .vmem S1024x2048 .bf16 := Memref.whole cc0_scratch0
abbrev scX : Memref sig .tc .vmem S1024x2048 .f32 := Memref.whole cc0_scratch1
abbrev scM : Memref sig .tc .vmem S1024x2048 .f32 := Memref.whole cc0_scratch2
/-- The two operands left in HBM. -/
abbrev hbX : Memref sig .tc .hbm S32768x2048 .f32 := Memref.whole main_arg0
abbrev hbM : Memref sig .tc .hbm S32768x2048 .f32 := Memref.whole main_arg1
/-- A memref's buffer on core `c`, and that buffer held whole. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- The body's two cells, and the two operands its copies read. -/
abbrev osem : Fin 2 → SemLoc sig := fun j => (![SemLoc.dma 8, SemLoc.dma 9] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0 ∗ semVal ((c : Thread nD τ), SemLoc.dma 9) 0) := by
  rw [Pipeline.ownSems0_eq_of_list c osem [0, 1] (by decide) (by decide)]; rfl
def HB : Finset (Ref sig .tc) := {main_arg0, main_arg1}
theorem HB_sub : HB ⊆ Pipeline.restRefs sig spec0 := by decide
theorem hbPts_eq (c : Dev nD) :
    (bigSep HB (fun b => ((c : Thread nD τ).loc b) ↦{fullShare} V m c b) : sProp 𝕄) = iprop(held c hbX (V m c main_arg0) ∗ held c hbM (V m c main_arg1)) := by
  rw [BI.bigSep_eq_bigSepL_of_eq [main_arg0, main_arg1] (by decide) (by decide)]; rfl

/-- What the launch hands the region and takes back, listed. -/
theorem launched_eq (c : Dev nD) :
    (Pipeline.ΦD osem spec0 HB (V m) c : sProp 𝕄)
      = iprop(iprop((∃ d, owns (c : Thread nD τ) scH fullShare d) ∗ (∃ d, owns (c : Thread nD τ) scX fullShare d) ∗ (∃ d, owns (c : Thread nD τ) scM fullShare d))
          ∗ (∃ r, prngReg c r)
          ∗ iprop(semVal ((c : Thread nD τ), SemLoc.dma 8) 0 ∗ semVal ((c : Thread nD τ), SemLoc.dma 9) 0)
          ∗ iprop(held c hbX (V m c main_arg0) ∗ held c hbM (V m c main_arg1))) := by
  rw [Pipeline.ΦD_eq, scopedRest0_eq, ownSems_eq, hbPts_eq]; simp only [scH, scX, scM, owns_whole]; try rfl

/-! ## The row blocks of the two operands, and a copy of one in flight -/

theorem inb_rows (b : Fin 32) : ∀ a, (![1024 * b.val, 0] : Fin 2 → Nat) a + S1024x2048.size a ≤ S32768x2048.size a := by
  have := b.isLt; intro a; fin_cases a <;> simp <;> omega
/-- Row block `b` of an operand left in HBM. -/
def rows (M : Memref sig .tc .hbm S32768x2048 .f32) (b : Fin 32) : Memref sig .tc .hbm S1024x2048 .f32 :=
  M.slice (Rect.unit (s := S32768x2048) ![1024 * b.val, 0] S1024x2048.size (inb_rows b)) (fun _ => rfl)
/-- The row block after point `t`'s. -/
def nextB (n : ℕ) : Fin 32 := ⟨(n / 8 + 1) % 32, Nat.mod_lt _ (by decide)⟩
/-- The row block of point `t`. -/
def curB (n : ℕ) : Fin 32 := ⟨n / 8 % 32, Nat.mod_lt _ (by decide)⟩

section Flight
variable (c : Dev nD)
/-- Row block `b`'s elements held, the operand's others held, and the landing place held. -/
abbrev blockP (M : Memref sig .tc .hbm S32768x2048 .f32) (W : BufOf (F := F) c M) (b : Fin 32) : sProp 𝕄 :=
  (rows M b).view.loc (c : Thread nD τ) ↦[(rows M b).view.set]{fullShare} W
def otherP (M : Memref sig .tc .hbm S32768x2048 .f32) (W : BufOf (F := F) c M) (b : Fin 32) : sProp 𝕄 :=
  M.view.loc (c : Thread nD τ) ↦[Finset.univ \ (rows M b).view.set]{fullShare} W
abbrev placeP (S : Memref sig .tc .vmem S1024x2048 .f32) (f : BufOf (F := F) c S) : sProp 𝕄 :=
  S.view.loc (c : Thread nD τ) ↦[S.view.set]{fullShare} f
/-- The landing place once row block `b` has landed over `f`. -/
abbrev landed (M : Memref sig .tc .hbm S32768x2048 .f32) (W : BufOf (F := F) c M) (S : Memref sig .tc .vmem S1024x2048 .f32) (b : Fin 32) (f : BufOf (F := F) c S) :
    BufOf (F := F) c S :=
  S.view.writes (Elt F) f [⟨Rect.whole S1024x2048, ReadAs.same.apply ((rows M b).view.read (Elt F) W)⟩]
/-- The copy of row block `b` in flight on cell `sm`: it will deliver the landing place landed and the block back. -/
abbrev flightP (M : Memref sig .tc .hbm S32768x2048 .f32) (W : BufOf (F := F) c M) (S : Memref sig .tc .vmem S1024x2048 .f32) (sm : SemLoc sig) (b : Fin 32) (f : BufOf (F := F) c S) : sProp 𝕄 :=
  Transfers.Flight countersEmb (c : Thread nD τ) sm default (S.view.amount sm)
    iprop(placeP c S (landed c M W S b f) ∗ blockP c M W b)

/-- An operand held whole is row block `b`'s elements and the others. -/
theorem split (M : Memref sig .tc .hbm S32768x2048 .f32) (hM : M = hbX ∨ M = hbM) (W : BufOf (F := F) c M) (b : Fin 32) :
    (held c M W : sProp 𝕄) ⊣⊢ iprop(blockP c M W b ∗ otherP c M W b) := by
  unfold otherP
  rcases hM with rfl | rfl <;> exact pointsTo_split_subset (Finset.subset_univ _)
end Flight

/-- At a point that starts the next row block's copies, the source is that row block. -/
theorem off2_eq : ∀ t : Fin grid0.N, starts (grid0.coords t) → k0_off2 (grid0.coords t) = ![1024 * (nextB t.val).val, 0] := by decide +kernel
@[sl_canon] theorem source_eqX (t : Fin grid0.N) (h : starts (grid0.coords t)) :
    hbX.slice (Rect.unit (s := S32768x2048) (k0_off2 (grid0.coords t)) S1024x2048.size (k0_off2_inb (grid0.coords t) h)) (fun _ => rfl) = rows hbX (nextB t.val) :=
  congrArg (fun M : Memref sig .tc .hbm S1024x2048 .f32 => M) (Memref.slice_unit_congr _ (off2_eq t h) _ _ (fun _ => rfl) (fun _ => rfl))
@[sl_canon] theorem source_eqM (t : Fin grid0.N) (h : starts (grid0.coords t)) :
    hbM.slice (Rect.unit (s := S32768x2048) (k0_off2 (grid0.coords t)) S1024x2048.size (k0_off2_inb (grid0.coords t) h)) (fun _ => rfl) = rows hbM (nextB t.val) :=
  congrArg (fun M : Memref sig .tc .hbm S1024x2048 .f32 => M) (Memref.slice_unit_congr _ (off2_eq t h) _ _ (fun _ => rfl) (fun _ => rfl))

end Cert.KernelIdeal.Mlp

end
-- ==== Proof.MlpSlab.lean ====
/- The rows a row block's first point stores: the sums of the two landed blocks and their normalised rows, slab by slab. -/
module

public import proofs.«01_k».proof.Proof.MlpBase
public import Idealize.ShloMosaic.Lib.VecWindow

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

/-- A slab of 128 rows of a row block. -/
abbrev slab (off : Fin 2 → ℕ) (inb : ∀ a, off a + S128x2048.size a ≤ S1024x2048.size a) : Rect S1024x2048 := Rect.unit (s := S1024x2048) off S128x2048.size inb
/-- What a slab's load reads of a landing place where `x` (respectively `m`) has landed. -/
abbrev slabX (x : S1024x2048.Idx → Elt F .f32) (r : Rect S1024x2048) : r.shape.Idx → Elt F .f32 := scX.view.readCov [⟨Rect.whole S1024x2048, x⟩] r.toLoadRect
abbrev slabM (m : S1024x2048.Idx → Elt F .f32) (r : Rect S1024x2048) : r.shape.Idx → Elt F .f32 := scM.view.readCov [⟨Rect.whole S1024x2048, m⟩] r.toLoadRect

/-- The stores of the sums, last first. -/
def sumL (x m : S1024x2048.Idx → Elt F .f32) : List (View.Piece (Elt F) S1024x2048 .f32) :=
  [⟨slab ![896, 0] inb_S1024x2048_S128x2048_896_0, k0_pay19 (slabX x (slab ![896, 0] inb_S1024x2048_S128x2048_896_0)) (slabM m (slab ![896, 0] inb_S1024x2048_S128x2048_896_0))⟩,
   ⟨slab ![768, 0] inb_S1024x2048_S128x2048_768_0, k0_pay17 (slabX x (slab ![768, 0] inb_S1024x2048_S128x2048_768_0)) (slabM m (slab ![768, 0] inb_S1024x2048_S128x2048_768_0))⟩,
   ⟨slab ![640, 0] inb_S1024x2048_S128x2048_640_0, k0_pay14 (slabX x (slab ![640, 0] inb_S1024x2048_S128x2048_640_0)) (slabM m (slab ![640, 0] inb_S1024x2048_S128x2048_640_0))⟩,
   ⟨slab ![512, 0] inb_S1024x2048_S128x2048_512_0, k0_pay12 (slabX x (slab ![512, 0] inb_S1024x2048_S128x2048_512_0)) (slabM m (slab ![512, 0] inb_S1024x2048_S128x2048_512_0))⟩,
   ⟨slab ![384, 0] inb_S1024x2048_S128x2048_384_0, k0_pay10 (slabX x (slab ![384, 0] inb_S1024x2048_S128x2048_384_0)) (slabM m (slab ![384, 0] inb_S1024x2048_S128x2048_384_0))⟩,
   ⟨slab ![256, 0] inb_S1024x2048_S128x2048_256_0, k0_pay6 (slabX x (slab ![256, 0] inb_S1024x2048_S128x2048_256_0)) (slabM m (slab ![256, 0] inb_S1024x2048_S128x2048_256_0))⟩,
   ⟨slab ![128, 0] inb_S1024x2048_S128x2048_128_0, k0_pay4 (slabX x (slab ![128, 0] inb_S1024x2048_S128x2048_128_0)) (slabM m (slab ![128, 0] inb_S1024x2048_S128x2048_128_0))⟩,
   ⟨slab ![0, 0] inb_S1024x2048_S128x2048_0_0, k0_pay2 (slabX x (slab ![0, 0] inb_S1024x2048_S128x2048_0_0)) (slabM m (slab ![0, 0] inb_S1024x2048_S128x2048_0_0))⟩]
/-- The stores of the normalised rows, last first. -/
def rowL (x m : S1024x2048.Idx → Elt F .f32) (g : Vec F S1x1x2048 .f32) : List (View.Piece (Elt F) S1024x2048 .bf16) :=
  [⟨slab ![896, 0] inb_S1024x2048_S128x2048_896_0, k0_pay22 (k0_pay19 (slabX x (slab ![896, 0] inb_S1024x2048_S128x2048_896_0)) (slabM m (slab ![896, 0] inb_S1024x2048_S128x2048_896_0))) (k0_pay20 g) (k0_pay21 (slabX x (slab ![896, 0] inb_S1024x2048_S128x2048_896_0)) (slabM m (slab ![896, 0] inb_S1024x2048_S128x2048_896_0)))⟩,
   ⟨slab ![768, 0] inb_S1024x2048_S128x2048_768_0, k0_pay18 (slabX x (slab ![768, 0] inb_S1024x2048_S128x2048_768_0)) (slabM m (slab ![768, 0] inb_S1024x2048_S128x2048_768_0)) g⟩,
   ⟨slab ![640, 0] inb_S1024x2048_S128x2048_640_0, k0_pay16 (k0_pay15 (slabX x (slab ![640, 0] inb_S1024x2048_S128x2048_640_0)) (slabM m (slab ![640, 0] inb_S1024x2048_S128x2048_640_0)) g)⟩,
   ⟨slab ![512, 0] inb_S1024x2048_S128x2048_512_0, k0_pay13 (k0_pay12 (slabX x (slab ![512, 0] inb_S1024x2048_S128x2048_512_0)) (slabM m (slab ![512, 0] inb_S1024x2048_S128x2048_512_0))) g⟩,
   ⟨slab ![384, 0] inb_S1024x2048_S128x2048_384_0, k0_pay11 (slabX x (slab ![384, 0] inb_S1024x2048_S128x2048_384_0)) (slabM m (slab ![384, 0] inb_S1024x2048_S128x2048_384_0)) g⟩,
   ⟨slab ![256, 0] inb_S1024x2048_S128x2048_256_0, k0_pay9 (k0_pay7 g) (k0_pay8 (slabX x (slab ![256, 0] inb_S1024x2048_S128x2048_256_0)) (slabM m (slab ![256, 0] inb_S1024x2048_S128x2048_256_0)))⟩,
   ⟨slab ![128, 0] inb_S1024x2048_S128x2048_128_0, k0_pay5 (k0_pay4 (slabX x (slab ![128, 0] inb_S1024x2048_S128x2048_128_0)) (slabM m (slab ![128, 0] inb_S1024x2048_S128x2048_128_0))) g⟩,
   ⟨slab ![0, 0] inb_S1024x2048_S128x2048_0_0, k0_pay3 (slabX x (slab ![0, 0] inb_S1024x2048_S128x2048_0_0)) (slabM m (slab ![0, 0] inb_S1024x2048_S128x2048_0_0)) g⟩]
/-- The sums and the normalised rows of a row block whose two operands' blocks are `x` and `m`. -/
def sumV (x m : S1024x2048.Idx → Elt F .f32) : Vec F S1024x2048 .f32 := View.canon (sumL x m)
def rowV (x m : S1024x2048.Idx → Elt F .f32) (g : Vec F S1x1x2048 .f32) : Vec F S1024x2048 .bf16 := View.canon (rowL x m g)

theorem sum_cover (x m : S1024x2048.Idx → Elt F .f32) : ∀ y : S1024x2048.Idx, ∃ p ∈ sumL x m, y ∈ p.1.set :=
  View.cover_of_tiledL _ S128x2048.size (by sl_kernel_rfl)
theorem row_cover (x m : S1024x2048.Idx → Elt F .f32) (g : Vec F S1x1x2048 .f32) : ∀ y : S1024x2048.Idx, ∃ p ∈ rowL x m g, y ∈ p.1.set :=
  View.cover_of_tiledL _ S128x2048.size (by sl_kernel_rfl)

/-- A load of the whole tile after the slabs' stores reads the sums (respectively the normalised rows). -/
theorem readCov_sum (v : View sig .tc .vmem S1024x2048 .f32) (x m : S1024x2048.Idx → Elt F .f32) (inb : ∀ a, (![0, 0] : Fin 2 → ℕ) a + S1024x2048.size a ≤ S1024x2048.size a) :
    v.readCov (sumL x m) (Rect.unit (s := S1024x2048) ![0, 0] S1024x2048.size inb).toLoadRect = sumV x m :=
  (View.readAt_full v _ inb).trans (View.read_writes_eq_canon _ _ _ (sum_cover x m))
theorem readCov_row (v : View sig .tc .vmem S1024x2048 .bf16) (x m : S1024x2048.Idx → Elt F .f32) (g : Vec F S1x1x2048 .f32) (inb : ∀ a, (![0, 0] : Fin 2 → ℕ) a + S1024x2048.size a ≤ S1024x2048.size a) :
    v.readCov (rowL x m g) (Rect.unit (s := S1024x2048) ![0, 0] S1024x2048.size inb).toLoadRect = rowV x m g :=
  (View.readAt_full v _ inb).trans (View.read_writes_eq_canon _ _ _ (row_cover x m g))

/-- The row block `b` of an operand, as it lands. -/
abbrev blockV (c : Dev nD) (M : Memref sig .tc .hbm S32768x2048 .f32) (W : BufOf (F := F) c M) (b : Fin 32) : S1024x2048.Idx → Elt F .f32 :=
  ReadAs.same.apply ((rows M b).view.read (Elt F) W)

/-- After the slabs' stores the scratch reads as the normalised rows. -/
theorem row_read (v : View sig .tc .vmem S1024x2048 .bf16) (f : v.ty.Contents (Elt F)) (x m : S1024x2048.Idx → Elt F .f32) (g g' : Vec F S1x1x2048 .f32) (e : g' = g) :
    v.read (Elt F) (v.writes (Elt F) f (rowL x m g')) = rowV x m g := e ▸ View.read_writes_eq_canon _ _ _ (row_cover x m _)

/-- What a row block's first point stores last, from what its loads read. -/
theorem payload_eq (v : View sig .tc .vmem S1024x2048 .bf16) (u : View sig .tc .vmem S1024x2048 .f32) (x m : S1024x2048.Idx → Elt F .f32) (g g' : Vec F S1x1x2048 .f32)
    (inb inb') (w1 w1' : Vec F S1x2048x1024 .bf16) (w2 w2' : Vec F S1x1024x2048 .bf16) (e : g' = g) (e1 : w1' = w1) (e2 : w2' = w2) :
    k0_pay23 (v.readCov (rowL x m g') (Rect.unit (s := S1024x2048) ![0, 0] S1024x2048.size inb).toLoadRect) w1' (u.readCov (sumL x m) (Rect.unit (s := S1024x2048) ![0, 0] S1024x2048.size inb').toLoadRect) w2'
      = k0_pay23 (rowV x m g) w1 (sumV x m) w2 := by
  subst e e1 e2; rw [readCov_row, readCov_sum]

end Cert.KernelIdeal.Mlp

end
-- ==== Proof.MlpPay.lean ====
/- The feed-forward kernel's stores, read entry by entry over the extended reals: the sums and the normalised rows that a
   row block's first point keeps, one step's products, and the closing norm. -/
module

public import proofs.«01_k».proof.Proof.Rows
public import proofs.«01_k».proof.Proof.MlpSlab
public import Idealize.ShloMosaic.Lib.Pipeline.ValueKit.Tiles

@[expose] public section

set_option maxRecDepth 16384

noncomputable section

namespace Cert.KernelIdeal.Mlp

open Cert.KernelIdeal Cert.KernelIdeal.Gen Idealize.ShloMosaic
open scoped BigOperators

/-- One step's store: the tile's entry plus the step's 1024 activations times their weights. -/
theorem step_apply (h : Vec Ideal S1024x2048 .bf16) (w1 : Vec Ideal S1x2048x1024 .bf16) (a : Vec Ideal S1024x2048 .f32) (w2 : Vec Ideal S1x1024x2048 .bf16)
    (r : Fin 1024) (p : Fin 2048) :
    k0_pay23 (F := Ideal) h w1 a w2 (ix2 r p)
      = a (ix2 r p) + ∑ j : Fin 1024, Rows.act (fun k => h (ix2 r k)) (fun k => w1 (ix3 0 k j)) * w2 (ix3 0 j p) := by
  pointwise [k0_pay23, Rows.act]

/-- The closing store: the normalised row of the tile. -/
theorem close_apply (y : Vec Ideal S1024x2048 .f32) (g : Vec Ideal S1x2048 .f32) (r : Fin 1024) (p : Fin 2048) :
    k0_pay1 (F := Ideal) y g (ix2 r p) = Rows.nrm (fun k => y (ix2 r k)) (fun k => g (ix2 0 k)) p := by
  pointwise [k0_pay1, Rows.nrm, Rows.scale]

/-- A piece that is the whole array holds every index. -/
theorem whole_holds (x : S1024x2048.Idx → Elt Ideal .f32) (y : S1024x2048.Idx) :
    ∃ p ∈ ([⟨Rect.whole S1024x2048, x⟩] : List (View.Piece (Elt Ideal) S1024x2048 .f32)), y ∈ p.1.set := by
  refine ⟨⟨Rect.whole S1024x2048, x⟩, List.mem_singleton_self _, ?_⟩
  rw [Rect.set_whole]; exact Finset.mem_univ _

/-- A store of the whole array reads back as itself. -/
theorem canon_whole (x : S1024x2048.Idx → Elt Ideal .f32) (y : S1024x2048.Idx) :
    View.canon (Val := Elt Ideal) [⟨Rect.whole S1024x2048, x⟩] y = x y :=
  View.canon_eq_of_allAt _ y _ (whole_holds x y) fun p hp z hz => by
    obtain rfl := List.mem_singleton.mp hp
    exact congrArg x ((Rect.emb_whole_apply _ z).symm.trans hz)

/-- A slab's load reads the landed block at the slab's rows. -/
theorem slabX_apply (x : S1024x2048.Idx → Elt Ideal .f32) (off : Fin 2 → ℕ) (inb : ∀ a, off a + S128x2048.size a ≤ S1024x2048.size a)
    (r : Fin 128) (k : Fin 2048) (q : Fin 1024) (hq : q.val = off 0 + r.val) (h1 : off 1 = 0) :
    slabX x (slab off inb) (ix2 r k) = x (ix2 q k) := by
  refine (congrFun (View.readCov_eq_canon scX.view _ (slab off inb).toLoadRect fun j => whole_holds x _) (ix2 r k)).trans
    ((canon_whole x _).trans (congrArg x (funext fun a => Fin.ext ?_)))
  match a with
  | ⟨0, _⟩ => show off 0 + 1 * r.val = q.val; omega
  | ⟨1, _⟩ => show off 1 + 1 * k.val = k.val; omega
theorem slabM_apply (x : S1024x2048.Idx → Elt Ideal .f32) (off : Fin 2 → ℕ) (inb : ∀ a, off a + S128x2048.size a ≤ S1024x2048.size a)
    (r : Fin 128) (k : Fin 2048) (q : Fin 1024) (hq : q.val = off 0 + r.val) (h1 : off 1 = 0) :
    slabM x (slab off inb) (ix2 r k) = x (ix2 q k) := by
  refine (congrFun (View.readCov_eq_canon scM.view _ (slab off inb).toLoadRect fun j => whole_holds x _) (ix2 r k)).trans
    ((canon_whole x _).trans (congrArg x (funext fun a => Fin.ext ?_)))
  match a with
  | ⟨0, _⟩ => show off 0 + 1 * r.val = q.val; omega
  | ⟨1, _⟩ => show off 1 + 1 * k.val = k.val; omega

/-- The stored sums: at every entry the sum of the two landed blocks' entries. -/
theorem sumV_apply (x m : S1024x2048.Idx → Elt Ideal .f32) (q : Fin 1024) (p : Fin 2048) :
    sumV x m (ix2 q p) = (x (ix2 q p) + m (ix2 q p) : EReal) := by
  unfold sumV
  refine View.canon_eq_of_allAt _ _ _ (sum_cover x m _) ?_
  unfold sumL
  iterate 8
    refine View.allAt_cons_unit _ _ _ _ _ (fun z hz => ?_) ?_
    · obtain ⟨r, k, rfl⟩ : ∃ (r : Fin 128) (k : Fin 2048), z = ix2 r k := ⟨z 0, z 1, eq_ix2 z⟩
      have h0 := hz 0
      have h1 : p.val = 0 + k.val := hz 1
      obtain rfl : p = k := Fin.ext (by omega)
      refine (congrArg₂ (fun a b : EReal => a + b) (slabX_apply x _ _ r p q h0 rfl) (slabM_apply m _ _ r p q h0 rfl))
  exact View.allAt_nil _ _

/-- The stored rows: each row of the sums, normalised. -/
theorem rowV_apply (x m : S1024x2048.Idx → Elt Ideal .f32) (g : Vec Ideal S1x1x2048 .f32) (q : Fin 1024) (p : Fin 2048) :
    rowV x m g (ix2 q p) = Rows.nrm (fun k => (x (ix2 q k) + m (ix2 q k) : EReal)) (fun k => g (ix3 0 0 k)) p := by
  have key (a b : Vec Ideal S128x2048 .f32) (r : Fin 128) (ha : ∀ k, a (ix2 r k) = x (ix2 q k)) (hb : ∀ k, b (ix2 r k) = m (ix2 q k)) :
      k0_pay3 (F := Ideal) a b g (ix2 r p) = Rows.nrm (fun k => (x (ix2 q k) + m (ix2 q k) : EReal)) (fun k => g (ix3 0 0 k)) p := by
    simp only [← ha, ← hb]
    pointwise [k0_pay3, k0_pay2, Rows.nrm, Rows.scale]
  unfold rowV
  refine View.canon_eq_of_allAt _ _ _ (row_cover x m g _) ?_
  unfold rowL
  iterate 8
    refine View.allAt_cons_unit _ _ _ _ _ (fun z hz => ?_) ?_
    · obtain ⟨r, k, rfl⟩ : ∃ (r : Fin 128) (k : Fin 2048), z = ix2 r k := ⟨z 0, z 1, eq_ix2 z⟩
      have h0 := hz 0
      have h1 : p.val = 0 + k.val := hz 1
      obtain rfl : p = k := Fin.ext (by omega)
      exact key _ _ r (fun k => slabX_apply x _ _ r k q h0 rfl) (fun k => slabM_apply m _ _ r k q h0 rfl)
  exact View.allAt_nil _ _

end Cert.KernelIdeal.Mlp

end
-- ==== Proof.MlpInv.lean ====
/-
  The feed-forward call's frame, at any values: what holds between two grid points.
-/
module

public import proofs.«01_k».proof.Proof.MlpSlab

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

/-- The norm's weights: the window over them never moves. -/
def gain (c : Dev nD) : Vec F S1x1x2048 .f32 := iblk m c 0 ⟨0, by decide⟩
theorem gain_eq (c : Dev nD) (t : Fin cfg0.N) : iblk m c 0 t = gain m c := rfl

/-- Point `n`'s row block of the two operands, its normalised rows, and the sums the result's tile starts from. -/
abbrev blkX (c : Dev nD) (n : ℕ) : S1024x2048.Idx → Elt F .f32 := blockV c hbX (V m c main_arg0) (curB n)
abbrev blkM (c : Dev nD) (n : ℕ) : S1024x2048.Idx → Elt F .f32 := blockV c hbM (V m c main_arg1) (curB n)
def rowsAt (c : Dev nD) (n : ℕ) : Vec F S1024x2048 .bf16 := rowV (blkX m c n) (blkM m c n) (gain m c)
def sumAt (c : Dev nD) (n : ℕ) : Vec F S1024x2048 .f32 := sumV (blkX m c n) (blkM m c n)
theorem rowsAt_congr (c : Dev nD) {n n' : ℕ} (h : n / 8 = n' / 8) : rowsAt m c n = rowsAt m c n' := by
  unfold rowsAt blkX blkM curB; simp only [h]

/-- The result's tile after the point `n`: at a row block's first point the sums and the first products; at each later one
    what the point before left and this point's products; at the last one the norm of that. -/
def tileAt (c : Dev nD) : (n : ℕ) → n < cfg0.N → Vec F S1024x2048 .f32
  | 0, hn => k0_pay23 (rowsAt m c 0) (iblk m c 1 ⟨0, hn⟩) (sumAt m c 0) (iblk m c 2 ⟨0, hn⟩)
  | n + 1, hn =>
    if (n + 1) % 8 = 0 then k0_pay23 (rowsAt m c (n + 1)) (iblk m c 1 ⟨n + 1, hn⟩) (sumAt m c (n + 1)) (iblk m c 2 ⟨n + 1, hn⟩)
    else if (n + 1) % 8 = 7 then
      k0_pay1 (k0_pay23 (rowsAt m c (n + 1)) (iblk m c 1 ⟨n + 1, hn⟩) (tileAt c n (Nat.lt_of_succ_lt hn)) (iblk m c 2 ⟨n + 1, hn⟩)) (iblk m c 3 ⟨n + 1, hn⟩)
    else k0_pay23 (rowsAt m c (n + 1)) (iblk m c 1 ⟨n + 1, hn⟩) (tileAt c n (Nat.lt_of_succ_lt hn)) (iblk m c 2 ⟨n + 1, hn⟩)

theorem pred_lt (t : Fin cfg0.N) : t.val - 1 < cfg0.N := Nat.lt_of_le_of_lt (Nat.sub_le _ _) t.isLt
theorem tileAt_open (c : Dev nD) (t : Fin cfg0.N) (h : t.val % 8 = 0) :
    tileAt m c t.val t.isLt = k0_pay23 (rowsAt m c t.val) (iblk m c 1 t) (sumAt m c t.val) (iblk m c 2 t) := by
  obtain ⟨n, hn⟩ := t
  cases n with
  | zero => rfl
  | succ n => exact if_pos h
theorem tileAt_mid (c : Dev nD) (t : Fin cfg0.N) (h : t.val % 8 ≠ 0) (h7 : t.val % 8 ≠ 7) :
    tileAt m c t.val t.isLt = k0_pay23 (rowsAt m c t.val) (iblk m c 1 t) (tileAt m c (t.val - 1) (pred_lt t)) (iblk m c 2 t) := by
  obtain ⟨n, hn⟩ := t
  cases n with
  | zero => exact absurd (Nat.zero_mod 8) h
  | succ n => exact (if_neg h).trans (if_neg h7)
theorem tileAt_last (c : Dev nD) (t : Fin cfg0.N) (h7 : t.val % 8 = 7) :
    tileAt m c t.val t.isLt = k0_pay1 (k0_pay23 (rowsAt m c t.val) (iblk m c 1 t) (tileAt m c (t.val - 1) (pred_lt t)) (iblk m c 2 t)) (iblk m c 3 t) := by
  obtain ⟨n, hn⟩ := t
  cases n with
  | zero => exact absurd (show 0 % 8 = 7 from h7) (by decide)
  | succ n => exact (if_neg (by show ¬(n + 1) % 8 = 0; have : (n + 1) % 8 = 7 := h7; omega)).trans (if_pos h7)

/-! ## What holds between two points -/

/-- Before point `n` a row block's copies are in flight; -/
def flying (n : ℕ) : Prop := (2 ≤ n % 8 ∧ n < 248) ∨ (n % 8 = 0 ∧ 0 < n ∧ n < 256)
instance (n : ℕ) : Decidable (flying n) := by unfold flying; infer_instance
/-- and this is the row block. -/
def fetchB (n : ℕ) : Fin 32 := ⟨(n + 6) / 8 % 32, Nat.mod_lt _ (by decide)⟩

/-- No copy in flight: the landing places at anything, the cells at zero, the operands whole. -/
def idleP (c : Dev nD) : sProp 𝕄 :=
  iprop((∃ f, placeP c scX f) ∗ (∃ f, placeP c scM f) ∗ semVal ((c : Thread nD τ), SemLoc.dma 8) 0 ∗ semVal ((c : Thread nD τ), SemLoc.dma 9) 0
    ∗ held c hbX (V m c main_arg0) ∗ held c hbM (V m c main_arg1))
/-- Row block `b`'s copies in flight, and the operands' other elements. -/
def flyP (c : Dev nD) (b : Fin 32) : sProp 𝕄 :=
  iprop((∃ f, flightP c hbX (V m c main_arg0) scX (SemLoc.dma 8) b f) ∗ otherP c hbX (V m c main_arg0) b
    ∗ (∃ f, flightP c hbM (V m c main_arg1) scM (SemLoc.dma 9) b f) ∗ otherP c hbM (V m c main_arg1) b)
/-- The copies' state before point `n`, -/
def copyP (c : Dev nD) (n : ℕ) : sProp 𝕄 := if flying n then flyP m c (fetchB n) else idleP m c
/-- and the scratch of normalised rows: its row block's, but at anything before a row block's first point. -/
def scratchP (c : Dev nD) (n : ℕ) : sProp 𝕄 :=
  if n % 8 = 0 then iprop(∃ h, owns (c : Thread nD τ) scH fullShare h) else owns (c : Thread nD τ) scH fullShare (rowsAt m c n)
def PhiR (c : Dev nD) (n : ℕ) : sProp 𝕄 := iprop((∃ r, prngReg c r) ∗ scratchP m c n ∗ copyP m c n)

/-- A point that neither starts nor waits for a copy leaves the copies as they are. -/
theorem copyP_step (c : Dev nD) (n : ℕ) (hn : n < 256) (h0 : n % 8 ≠ 0) (h1 : ¬(n % 8 = 1 ∧ n < 248)) : copyP m c (n + 1) = copyP m c n := by
  unfold copyP
  by_cases h : flying n
  · have h' : flying (n + 1) := by unfold flying at h ⊢; omega
    rw [if_pos h, if_pos h']
    have e : fetchB (n + 1) = fetchB n := Fin.ext (by show (n + 1 + 6) / 8 % 32 = (n + 6) / 8 % 32; unfold flying at h; omega)
    rw [e]
  · have h' : ¬flying (n + 1) := by unfold flying at h ⊢; omega
    rw [if_neg h, if_neg h']
theorem copyP_idle (c : Dev nD) (n : ℕ) (h : ¬flying n) : copyP m c n = idleP m c := if_neg h
theorem copyP_fly (c : Dev nD) (n : ℕ) (h : flying n) : copyP m c n = flyP m c (fetchB n) := if_pos h
theorem scratchP_any (c : Dev nD) (n : ℕ) (h : n % 8 = 0) : scratchP m c n = iprop(∃ h, owns (c : Thread nD τ) scH fullShare h) := if_pos h
theorem scratchP_rows (c : Dev nD) (n : ℕ) (h : n % 8 ≠ 0) : scratchP m c n = owns (c : Thread nD τ) scH fullShare (rowsAt m c n) := if_neg h

/-- What holds around the body at a point: the invariant, what the core owes, the five windows' buffers. -/
def around (c : Dev nD) (t : Fin cfg0.N) (n : ℕ) (R : sProp 𝕄) : sProp 𝕄 :=
  iprop(((∃ r, prngReg c r) ∗ scratchP m c n ∗ copyP m c n) ∗ (∃ W, ⌜True⌝ ∗ owes (c : Thread nD τ) 0 W)
    ∗ owns (c : Thread nD τ) (ms0 t) fullShare (gain m c) ∗ owns (c : Thread nD τ) (ms1 t) fullShare (iblk m c 1 t)
    ∗ owns (c : Thread nD τ) (ms2 t) fullShare (iblk m c 2 t) ∗ owns (c : Thread nD τ) (ms3 t) fullShare (iblk m c 3 t) ∗ R)

end Cert.KernelIdeal.Mlp

end
-- ==== Proof.MlpRunA.lean ====
/-
  The feed-forward call's body at the very first point, at any values.
-/
module

public import proofs.«01_k».proof.Proof.MlpSlab
public import Idealize.ShloMosaic.Lib.VecWindow

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

set_option maxHeartbeats 2000000 in
/-- At the very first point the copies of the first row block are started and waited for; then as at the first point of any other row block. -/
theorem run_first (c : Dev nD) (t : Fin cfg0.N) (arg4 : Memref sig .tc .vmem S1x1x2048 .f32) (harg4 : arg4.IsWhole) (arg5 : Memref sig .tc .vmem S1x2048x1024 .bf16) (harg5 : arg5.IsWhole)
    (arg6 : Memref sig .tc .vmem S1x1024x2048 .bf16) (harg6 : arg6.IsWhole) (arg7 : Memref sig .tc .vmem S1x2048 .f32) (harg7 : arg7.IsWhole) (arg8 : Memref sig .tc .vmem S1024x2048 .f32) (harg8 : arg8.IsWhole)
    (hc0 : first (grid0.coords t)) (hc1 : opens (grid0.coords t)) (hc2 : ¬starts (grid0.coords t)) (hc3 : ¬closes (grid0.coords t))
    (g : Vec F S1x1x2048 .f32) (w1 : Vec F S1x2048x1024 .bf16) (w2 : Vec F S1x1024x2048 .bf16)
    (WX : BufOf (F := F) c hbX) (WM : BufOf (F := F) c hbM) (fX : BufOf (F := F) c scX) (fM : BufOf (F := F) c scM) (W : Waits sig Unit) (K : PUnit → sProp 𝕄) :
    iprop(placeP c scX fX ∗ placeP c scM fM ∗ semVal ((c : Thread nD τ), SemLoc.dma 8) 0 ∗ semVal ((c : Thread nD τ), SemLoc.dma 9) 0 ∗ blockP c hbX WX 0 ∗ otherP c hbX WX 0 ∗ blockP c hbM WM 0 ∗ otherP c hbM WM 0
        ∗ owns (c : Thread nD τ) arg4 fullShare g ∗ owns (c : Thread nD τ) arg5 fullShare w1 ∗ owns (c : Thread nD τ) arg6 fullShare w2
        ∗ (∃ h, owns (c : Thread nD τ) scH fullShare h) ∗ (∃ o, owns (c : Thread nD τ) arg8 fullShare o) ∗ owes (c : Thread nD τ) 0 W
        ∗ (iprop((∃ f, placeP c scX f) ∗ (∃ f, placeP c scM f) ∗ semVal ((c : Thread nD τ), SemLoc.dma 8) 0 ∗ semVal ((c : Thread nD τ), SemLoc.dma 9) 0 ∗ held c hbX WX ∗ held c hbM WM
            ∗ owns (c : Thread nD τ) arg4 fullShare g ∗ owns (c : Thread nD τ) arg5 fullShare w1 ∗ owns (c : Thread nD τ) arg6 fullShare w2
            ∗ owns (c : Thread nD τ) scH fullShare (rowV (blockV c hbX WX 0) (blockV c hbM WM 0) g)
            ∗ owns (c : Thread nD τ) arg8 fullShare (k0_pay23 (rowV (blockV c hbX WX 0) (blockV c hbM WM 0) g) w1 (sumV (blockV c hbX WX 0) (blockV c hbM WM 0)) w2)
            ∗ (∃ W', owes (c : Thread nD τ) 0 W')) -∗ K ⟨⟩))
      ⊢ wp frame (wpE (defs₀ (F := F)) Variants.none c none) Set.univ
          (cc0_mlp (grid0.coords t) hbX (Memref.isWhole_whole _) hbM (Memref.isWhole_whole _) arg4 harg4 arg5 harg5 arg6 harg6 arg7 harg7 arg8 harg8 scH (Memref.isWhole_whole _) scX (Memref.isWhole_whole _) scM (Memref.isWhole_whole _) cc0_scratch3) K := by
  simp only [cc0_mlp_eq_skeleton]; unfold cc0_mlp_skel; simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨HdX, HdM, Hs8, Hs9, HbX, HrX, HbM, HrM, ⟨%f0, %hf0, H0⟩, ⟨%f1, %hf1, H1⟩, ⟨%f2, %hf2, H2⟩, ⟨%dh, %fh, -, Hh⟩, ⟨%do0, %fo, -, Ho⟩, HW, Hk⟩
  subst hf0
  sl_exec (disch := first | sl_exact hc0 | sl_exact hc1 | sl_exact hc2 | sl_exact hc3)
  sl_step
  iapply Hk
  isplitl [HdX]; · iexists _; iexact HdX
  isplitl [HdM]; · iexists _; iexact HdM
  isplitl [Hs8]; · iexact Hs8
  isplitl [Hs9]; · iexact Hs9
  isplitl [HbX HrX]
  · iapply (split c hbX (Or.inl rfl) WX 0).2
    isplitl [HbX]; · iexact HbX
    iexact HrX
  isplitl [HbM HrM]
  · iapply (split c hbM (Or.inr rfl) WM 0).2
    isplitl [HbM]; · iexact HbM
    iexact HrM
  isplitl [H0]; · iexists f0; isplitr; · ipureintro; exact rfl
                  iexact H0
  isplitl [H1]; · iexists f1; isplitr; · ipureintro; exact hf1
                  iexact H1
  isplitl [H2]; · iexists f2; isplitr; · ipureintro; exact hf2
                  iexact H2
  isplitl [Hh]; · iexists _; isplitr
                  swap; · iexact Hh
                  ipureintro; sl_unfold_words; exact row_read scH.view _ _ _ _ _ (View.readAt_full (s := S1x1x2048) _ _ _)
  isplitl [Ho]; · iexists _; isplitr
                  swap; · iexact Ho
                  · ipureintro
                    sl_unfold_words
                    refine (View.read_writes_full (s := S1024x2048) _ _ _ _ _).trans ?_
                    exact payload_eq scH.view arg8.view _ _ _ _ _ _ _ _ _ _ (View.readAt_full (s := S1x1x2048) _ _ _) ((View.readAt_full (s := S1x2048x1024) _ _ _).trans hf1) ((View.readAt_full (s := S1x1024x2048) _ _ _).trans hf2)
  iexists _; iexact HW

end Cert.KernelIdeal.Mlp

end
-- ==== Proof.MlpBodyA.lean ====
/- The feed-forward call's body between two points' invariants, at the very first point. -/
module

public import proofs.«01_k».proof.Proof.MlpInv
public import proofs.«01_k».proof.Proof.MlpRunA

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

set_option maxHeartbeats 1000000 in
/-- The body at the very first point. -/
theorem body_first (c : Dev nD) (t : Fin cfg0.N) (h0 : t.val % 8 = 0) (hz : t.val = 0) :
    around m c t t.val iprop(∃ o, owns (c : Thread nD τ) (ms4 t) fullShare o) ⊢ wp frame (wpE (defs₀ (F := F)) Variants.none c none) Set.univ (bodyAt0 t) (fun _ => around m c t (t.val + 1) (owns (c : Thread nD τ) (ms4 t) fullShare (tileAt m c t.val t.isLt))) := by
  have hN : t.val < 256 := lt_of_lt_of_eq t.isLt (show cfg0.N = 256 from N_0)
  have hc1 : opens (grid0.coords t) := (opens_iff t).mpr h0
  have hc2 : ¬starts (grid0.coords t) := fun h => by have := (starts_iff t).mp h; omega
  have hc3 : ¬closes (grid0.coords t) := fun h => by have := (closes_iff t).mp h; omega
  have hfl : ¬flying (t.val + 1) := by unfold flying; omega
  unfold around
  rw [tileAt_open m c t h0, scratchP_any m c _ h0, scratchP_rows m c (t.val + 1) (by omega), rowsAt_congr m c (show (t.val + 1) / 8 = t.val / 8 by omega), copyP_idle m c _ hfl]
  have hc0 : first (grid0.coords t) := (first_iff t).mpr hz
  have hb : curB t.val = 0 := by rw [hz]; rfl
  rw [copyP_idle m c _ (by unfold flying; omega)]
  unfold idleP rowsAt sumAt blkX blkM
  rw [hb]
  iintro ⟨⟨Hg, Hh, ⟨%fX, HX⟩, ⟨%fM, HM⟩, Hs8, Hs9, HWX, HWM⟩, ⟨%W, -, HW⟩, H0, H1, H2, H3, H4⟩
  ihave HsX := (split c hbX (Or.inl rfl) (V m c main_arg0) 0).1 $$ HWX
  icases HsX with ⟨HbX, HrX⟩
  ihave HsM := (split c hbM (Or.inr rfl) (V m c main_arg1) 0).1 $$ HWM
  icases HsM with ⟨HbM, HrM⟩
  iapply (run_first c t (ms0 t) (hs0 t) (ms1 t) (hs1 t) (ms2 t) (hs2 t) (ms3 t) (hs3 t) (ms4 t) (hs4 t) hc0 hc1 hc2 hc3 (gain m c) (iblk m c 1 t) (iblk m c 2 t) (V m c main_arg0) (V m c main_arg1) fX fM W _)
  isplitl [HX]; · iexact HX
  isplitl [HM]; · iexact HM
  isplitl [Hs8]; · iexact Hs8
  isplitl [Hs9]; · iexact Hs9
  isplitl [HbX]; · iexact HbX
  isplitl [HrX]; · iexact HrX
  isplitl [HbM]; · iexact HbM
  isplitl [HrM]; · iexact HrM
  isplitl [H0]; · iexact H0
  isplitl [H1]; · iexact H1
  isplitl [H2]; · iexact H2
  isplitl [Hh]; · iexact Hh
  isplitl [H4]; · iexact H4
  isplitl [HW]; · iexact HW
  iintro ⟨HX, HM, Hs8, Hs9, HWX, HWM, H0, H1, H2, Hh, H4, ⟨%W', HW⟩⟩
  isplitl [Hg Hh HX HM Hs8 Hs9 HWX HWM]
  · isplitl [Hg]; · iexact Hg
    isplitl [Hh]; · iexact Hh
    isplitl [HX]; · iexact HX
    isplitl [HM]; · iexact HM
    isplitl [Hs8]; · iexact Hs8
    isplitl [Hs9]; · iexact Hs9
    isplitl [HWX]; · iexact HWX
    iexact HWM
  isplitl [HW]
  · iexists W'; isplitr; · ipureintro; trivial
    iexact HW
  isplitl [H0]; · iexact H0
  isplitl [H1]; · iexact H1
  isplitl [H2]; · iexact H2
  isplitl [H3]; · iexact H3
  iexact H4

end Cert.KernelIdeal.Mlp

end
-- ==== Proof.MlpRunB.lean ====
/-
  The feed-forward call's body at the first point of a row block after the first, at any values.
-/
module

public import proofs.«01_k».proof.Proof.MlpSlab
public import Idealize.ShloMosaic.Lib.VecWindow

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

set_option maxHeartbeats 2000000 in
/-- At the first point of a row block after the first, the copies in flight land; the block's sums and normalised rows are stored, and the point accumulates on them. -/
theorem run_open (c : Dev nD) (t : Fin cfg0.N) (arg4 : Memref sig .tc .vmem S1x1x2048 .f32) (harg4 : arg4.IsWhole) (arg5 : Memref sig .tc .vmem S1x2048x1024 .bf16) (harg5 : arg5.IsWhole)
    (arg6 : Memref sig .tc .vmem S1x1024x2048 .bf16) (harg6 : arg6.IsWhole) (arg7 : Memref sig .tc .vmem S1x2048 .f32) (harg7 : arg7.IsWhole) (arg8 : Memref sig .tc .vmem S1024x2048 .f32) (harg8 : arg8.IsWhole)
    (hc0 : ¬first (grid0.coords t)) (hc1 : opens (grid0.coords t)) (hc2 : ¬starts (grid0.coords t)) (hc3 : ¬closes (grid0.coords t))
    (g : Vec F S1x1x2048 .f32) (w1 : Vec F S1x2048x1024 .bf16) (w2 : Vec F S1x1024x2048 .bf16)
    (WX : BufOf (F := F) c hbX) (WM : BufOf (F := F) c hbM) (b : Fin 32) (fX : BufOf (F := F) c scX) (fM : BufOf (F := F) c scM) (W : Waits sig Unit) (K : PUnit → sProp 𝕄) :
    iprop(flightP c hbX WX scX (SemLoc.dma 8) b fX ∗ otherP c hbX WX b ∗ flightP c hbM WM scM (SemLoc.dma 9) b fM ∗ otherP c hbM WM b
        ∗ owns (c : Thread nD τ) arg4 fullShare g ∗ owns (c : Thread nD τ) arg5 fullShare w1 ∗ owns (c : Thread nD τ) arg6 fullShare w2
        ∗ (∃ h, owns (c : Thread nD τ) scH fullShare h) ∗ (∃ o, owns (c : Thread nD τ) arg8 fullShare o) ∗ owes (c : Thread nD τ) 0 W
        ∗ (iprop((∃ f, placeP c scX f) ∗ (∃ f, placeP c scM f) ∗ semVal ((c : Thread nD τ), SemLoc.dma 8) 0 ∗ semVal ((c : Thread nD τ), SemLoc.dma 9) 0 ∗ held c hbX WX ∗ held c hbM WM
            ∗ owns (c : Thread nD τ) arg4 fullShare g ∗ owns (c : Thread nD τ) arg5 fullShare w1 ∗ owns (c : Thread nD τ) arg6 fullShare w2
            ∗ owns (c : Thread nD τ) scH fullShare (rowV (blockV c hbX WX b) (blockV c hbM WM b) g)
            ∗ owns (c : Thread nD τ) arg8 fullShare (k0_pay23 (rowV (blockV c hbX WX b) (blockV c hbM WM b) g) w1 (sumV (blockV c hbX WX b) (blockV c hbM WM b)) w2)
            ∗ (∃ W', owes (c : Thread nD τ) 0 W')) -∗ K ⟨⟩))
      ⊢ wp frame (wpE (defs₀ (F := F)) Variants.none c none) Set.univ
          (cc0_mlp (grid0.coords t) hbX (Memref.isWhole_whole _) hbM (Memref.isWhole_whole _) arg4 harg4 arg5 harg5 arg6 harg6 arg7 harg7 arg8 harg8 scH (Memref.isWhole_whole _) scX (Memref.isWhole_whole _) scM (Memref.isWhole_whole _) cc0_scratch3) K := by
  simp only [cc0_mlp_eq_skeleton]; unfold cc0_mlp_skel; simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨HfX, HrX, HfM, HrM, ⟨%f0, %hf0, H0⟩, ⟨%f1, %hf1, H1⟩, ⟨%f2, %hf2, H2⟩, ⟨%dh, %fh, -, Hh⟩, ⟨%do0, %fo, -, Ho⟩, HW, Hk⟩
  subst hf0
  sl_exec (disch := first | sl_exact hc0 | sl_exact hc1 | sl_exact hc2 | sl_exact hc3)
  sl_step
  iapply Hk
  isplitl [HfX_dst]; · iexists _; iexact HfX_dst
  isplitl [HfM_dst]; · iexists _; iexact HfM_dst
  isplitl [HfX]; · iexact HfX
  isplitl [HfM]; · iexact HfM
  isplitl [HfX_src HrX]
  · iapply (split c hbX (Or.inl rfl) WX b).2
    isplitl [HfX_src]; · iexact HfX_src
    iexact HrX
  isplitl [HfM_src HrM]
  · iapply (split c hbM (Or.inr rfl) WM b).2
    isplitl [HfM_src]; · iexact HfM_src
    iexact HrM
  isplitl [H0]; · iexists f0; isplitr; · ipureintro; exact rfl
                  iexact H0
  isplitl [H1]; · iexists f1; isplitr; · ipureintro; exact hf1
                  iexact H1
  isplitl [H2]; · iexists f2; isplitr; · ipureintro; exact hf2
                  iexact H2
  isplitl [Hh]; · iexists _; isplitr
                  swap; · iexact Hh
                  ipureintro; sl_unfold_words; exact row_read scH.view _ _ _ _ _ (View.readAt_full (s := S1x1x2048) _ _ _)
  isplitl [Ho]; · iexists _; isplitr
                  swap; · iexact Ho
                  · ipureintro
                    sl_unfold_words
                    refine (View.read_writes_full (s := S1024x2048) _ _ _ _ _).trans ?_
                    exact payload_eq scH.view arg8.view _ _ _ _ _ _ _ _ _ _ (View.readAt_full (s := S1x1x2048) _ _ _) ((View.readAt_full (s := S1x2048x1024) _ _ _).trans hf1) ((View.readAt_full (s := S1x1024x2048) _ _ _).trans hf2)
  iexists _; iexact HW

end Cert.KernelIdeal.Mlp

end
-- ==== Proof.MlpBodyB.lean ====
/- The feed-forward call's body between two points' invariants, at the first point of a row block after the first. -/
module

public import proofs.«01_k».proof.Proof.MlpInv
public import proofs.«01_k».proof.Proof.MlpRunB

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

set_option maxHeartbeats 1000000 in
/-- The body at the first point of a row block after the first. -/
theorem body_open (c : Dev nD) (t : Fin cfg0.N) (h0 : t.val % 8 = 0) (hz : t.val ≠ 0) :
    around m c t t.val iprop(∃ o, owns (c : Thread nD τ) (ms4 t) fullShare o) ⊢ wp frame (wpE (defs₀ (F := F)) Variants.none c none) Set.univ (bodyAt0 t) (fun _ => around m c t (t.val + 1) (owns (c : Thread nD τ) (ms4 t) fullShare (tileAt m c t.val t.isLt))) := by
  have hN : t.val < 256 := lt_of_lt_of_eq t.isLt (show cfg0.N = 256 from N_0)
  have hc1 : opens (grid0.coords t) := (opens_iff t).mpr h0
  have hc2 : ¬starts (grid0.coords t) := fun h => by have := (starts_iff t).mp h; omega
  have hc3 : ¬closes (grid0.coords t) := fun h => by have := (closes_iff t).mp h; omega
  have hfl : ¬flying (t.val + 1) := by unfold flying; omega
  unfold around
  rw [tileAt_open m c t h0, scratchP_any m c _ h0, scratchP_rows m c (t.val + 1) (by omega), rowsAt_congr m c (show (t.val + 1) / 8 = t.val / 8 by omega), copyP_idle m c _ hfl]
  have hc0 : ¬first (grid0.coords t) := fun h => hz ((first_iff t).mp h)
  have hb : fetchB t.val = curB t.val := Fin.ext (by show (t.val + 6) / 8 % 32 = t.val / 8 % 32; omega)
  rw [copyP_fly m c _ (by unfold flying; omega), hb]
  unfold idleP flyP rowsAt sumAt blkX blkM
  iintro ⟨⟨Hg, Hh, ⟨%fX, HX⟩, HrX, ⟨%fM, HM⟩, HrM⟩, ⟨%W, -, HW⟩, H0, H1, H2, H3, H4⟩
  iapply (run_open c t (ms0 t) (hs0 t) (ms1 t) (hs1 t) (ms2 t) (hs2 t) (ms3 t) (hs3 t) (ms4 t) (hs4 t) hc0 hc1 hc2 hc3 (gain m c) (iblk m c 1 t) (iblk m c 2 t) (V m c main_arg0) (V m c main_arg1) (curB t.val) fX fM W _)
  isplitl [HX]; · iexact HX
  isplitl [HrX]; · iexact HrX
  isplitl [HM]; · iexact HM
  isplitl [HrM]; · iexact HrM
  isplitl [H0]; · iexact H0
  isplitl [H1]; · iexact H1
  isplitl [H2]; · iexact H2
  isplitl [Hh]; · iexact Hh
  isplitl [H4]; · iexact H4
  isplitl [HW]; · iexact HW
  iintro ⟨HX, HM, Hs8, Hs9, HWX, HWM, H0, H1, H2, Hh, H4, ⟨%W', HW⟩⟩
  isplitl [Hg Hh HX HM Hs8 Hs9 HWX HWM]
  · isplitl [Hg]; · iexact Hg
    isplitl [Hh]; · iexact Hh
    isplitl [HX]; · iexact HX
    isplitl [HM]; · iexact HM
    isplitl [Hs8]; · iexact Hs8
    isplitl [Hs9]; · iexact Hs9
    isplitl [HWX]; · iexact HWX
    iexact HWM
  isplitl [HW]
  · iexists W'; isplitr; · ipureintro; trivial
    iexact HW
  isplitl [H0]; · iexact H0
  isplitl [H1]; · iexact H1
  isplitl [H2]; · iexact H2
  isplitl [H3]; · iexact H3
  iexact H4

end Cert.KernelIdeal.Mlp

end
-- ==== Proof.MlpRunC.lean ====
/-
  The feed-forward call's body at a point that starts the next row block's copies, at any values.
-/
module

public import proofs.«01_k».proof.Proof.MlpBase
public import Idealize.ShloMosaic.Lib.VecWindow

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

set_option maxHeartbeats 1000000 in
/-- At a point that starts the next row block's copies: both copies are in flight after it, their operands' other elements
    kept, and the result's tile gains the products as at any point. -/
theorem run_start (c : Dev nD) (t : Fin cfg0.N) (arg4 : Memref sig .tc .vmem S1x1x2048 .f32) (harg4 : arg4.IsWhole) (arg5 : Memref sig .tc .vmem S1x2048x1024 .bf16) (harg5 : arg5.IsWhole)
    (arg6 : Memref sig .tc .vmem S1x1024x2048 .bf16) (harg6 : arg6.IsWhole) (arg7 : Memref sig .tc .vmem S1x2048 .f32) (harg7 : arg7.IsWhole) (arg8 : Memref sig .tc .vmem S1024x2048 .f32) (harg8 : arg8.IsWhole)
    (hc0 : ¬first (grid0.coords t)) (hc1 : ¬opens (grid0.coords t)) (hc2 : starts (grid0.coords t)) (hc3 : ¬closes (grid0.coords t))
    (w1 : Vec F S1x2048x1024 .bf16) (w2 : Vec F S1x1024x2048 .bf16) (h : Vec F S1024x2048 .bf16) (o : Vec F S1024x2048 .f32) (WX : BufOf (F := F) c hbX) (WM : BufOf (F := F) c hbM) (fX : BufOf (F := F) c scX) (fM : BufOf (F := F) c scM) (K : PUnit → sProp 𝕄) :
    iprop(placeP c scX fX ∗ placeP c scM fM ∗ semVal ((c : Thread nD τ), SemLoc.dma 8) 0 ∗ semVal ((c : Thread nD τ), SemLoc.dma 9) 0 ∗ held c hbX WX ∗ held c hbM WM
        ∗ owns (c : Thread nD τ) arg5 fullShare w1 ∗ owns (c : Thread nD τ) arg6 fullShare w2 ∗ owns (c : Thread nD τ) scH fullShare h ∗ owns (c : Thread nD τ) arg8 fullShare o
        ∗ (iprop(flightP c hbX WX scX (SemLoc.dma 8) (nextB t.val) fX ∗ otherP c hbX WX (nextB t.val) ∗ flightP c hbM WM scM (SemLoc.dma 9) (nextB t.val) fM ∗ otherP c hbM WM (nextB t.val)
            ∗ owns (c : Thread nD τ) arg5 fullShare w1 ∗ owns (c : Thread nD τ) arg6 fullShare w2 ∗ owns (c : Thread nD τ) scH fullShare h
            ∗ owns (c : Thread nD τ) arg8 fullShare (k0_pay23 h w1 o w2)) -∗ K ⟨⟩))
      ⊢ wp frame (wpE (defs₀ (F := F)) Variants.none c none) Set.univ
          (cc0_mlp (grid0.coords t) hbX (Memref.isWhole_whole _) hbM (Memref.isWhole_whole _) arg4 harg4 arg5 harg5 arg6 harg6 arg7 harg7 arg8 harg8 scH (Memref.isWhole_whole _) scX (Memref.isWhole_whole _) scM (Memref.isWhole_whole _) cc0_scratch3) K := by
  simp only [cc0_mlp_eq_skeleton]; unfold cc0_mlp_skel; simp only [k0_part6_eq_skeleton]; unfold k0_part6_skel
  unfold owns
  iintro ⟨HX, HM, Hq0, Hq1, HWX, HWM, ⟨%f1, %hf1, H1⟩, ⟨%f2, %hf2, H2⟩, ⟨%fh, %hfh, Hh⟩, ⟨%fo, %hfo, Ho⟩, Hk⟩
  ihave HsX := (split c hbX (Or.inl rfl) WX (nextB t.val)).1 $$ HWX
  icases HsX with ⟨HbX, HrX⟩
  ihave HsM := (split c hbM (Or.inr rfl) WM (nextB t.val)).1 $$ HWM
  icases HsM with ⟨HbM, HrM⟩
  sl_exec (disch := first | sl_exact hc0 | sl_exact hc1 | sl_exact hc2 | sl_exact hc3)
  sl_step
  iapply Hk
  isplitl [Hq0]; · iexact Hq0
  isplitl [HrX]; · iexact HrX
  isplitl [Hq1]; · iexact Hq1
  isplitl [HrM]; · iexact HrM
  isplitl [H1]; · iexists _; isplitr; swap; · iexact H1
                  ipureintro; exact hf1
  isplitl [H2]; · iexists _; isplitr; swap; · iexact H2
                  ipureintro; exact hf2
  isplitl [Hh]; · iexists _; isplitr; swap; · iexact Hh
                  ipureintro; exact hfh
  iexists _; isplitr; swap; · iexact Ho
  ipureintro
  rw [View.read_writes_full, View.readAt_full, View.readAt_full, View.readAt_full, View.readAt_full, hf1, hf2, hfh, hfo]

end Cert.KernelIdeal.Mlp

end
-- ==== Proof.MlpBodyC.lean ====
/- The feed-forward call's body between two points' invariants, at a point that starts copies. -/
module

public import proofs.«01_k».proof.Proof.MlpInv
public import proofs.«01_k».proof.Proof.MlpRunC

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

set_option maxHeartbeats 1000000 in
/-- The body at a point that starts the next row block's copies. -/
theorem body_start (c : Dev nD) (t : Fin cfg0.N) (h0 : t.val % 8 ≠ 0) (h1 : t.val % 8 = 1 ∧ t.val < 248) :
    around m c t t.val (owns (c : Thread nD τ) (ms4 t) fullShare (tileAt m c (t.val - 1) (pred_lt t))) ⊢ wp frame (wpE (defs₀ (F := F)) Variants.none c none) Set.univ (bodyAt0 t) (fun _ => around m c t (t.val + 1) (owns (c : Thread nD τ) (ms4 t) fullShare (tileAt m c t.val t.isLt))) := by
  have hN : t.val < 256 := lt_of_lt_of_eq t.isLt (show cfg0.N = 256 from N_0)
  have hc0 : ¬first (grid0.coords t) := fun h => h0 (by rw [(first_iff t).mp h])
  have hc1 : ¬opens (grid0.coords t) := fun h => h0 ((opens_iff t).mp h)
  unfold around
  rw [scratchP_rows m c _ h0]
  have hc2 : starts (grid0.coords t) := (starts_iff t).mpr h1
  have hc3 : ¬closes (grid0.coords t) := fun h => by have := (closes_iff t).mp h; omega
  have hb : fetchB (t.val + 1) = nextB t.val := Fin.ext (by show (t.val + 1 + 6) / 8 % 32 = (t.val / 8 + 1) % 32; omega)
  rw [tileAt_mid m c t h0 (by omega), scratchP_rows m c (t.val + 1) (by omega), rowsAt_congr m c (show (t.val + 1) / 8 = t.val / 8 by omega),
    copyP_idle m c t.val (by unfold flying; omega), copyP_fly m c (t.val + 1) (by unfold flying; omega), hb]
  unfold idleP flyP
  iintro ⟨⟨Hg, Hh, ⟨%fX, HX⟩, ⟨%fM, HM⟩, Hs8, Hs9, HWX, HWM⟩, ⟨%W, -, HW⟩, H0, H1, H2, H3, H4⟩
  iapply (run_start c t (ms0 t) (hs0 t) (ms1 t) (hs1 t) (ms2 t) (hs2 t) (ms3 t) (hs3 t) (ms4 t) (hs4 t) hc0 hc1 hc2 hc3 (iblk m c 1 t) (iblk m c 2 t) (rowsAt m c t.val) (tileAt m c (t.val - 1) (pred_lt t)) (V m c main_arg0) (V m c main_arg1) fX fM _)
  isplitl [HX]; · iexact HX
  isplitl [HM]; · iexact HM
  isplitl [Hs8]; · iexact Hs8
  isplitl [Hs9]; · iexact Hs9
  isplitl [HWX]; · iexact HWX
  isplitl [HWM]; · iexact HWM
  isplitl [H1]; · iexact H1
  isplitl [H2]; · iexact H2
  isplitl [Hh]; · iexact Hh
  isplitl [H4]; · iexact H4
  iintro ⟨HX, HrX, HM, HrM, H1, H2, Hh, H4⟩
  isplitl [Hg Hh HX HrX HM HrM]
  · isplitl [Hg]; · iexact Hg
    isplitl [Hh]; · iexact Hh
    isplitl [HX]; · iexists _; iexact HX
    isplitl [HrX]; · iexact HrX
    isplitl [HM]; · iexists _; iexact HM
    iexact HrM
  isplitl [HW]
  · iexists W; isplitr; · ipureintro; trivial
    iexact HW
  isplitl [H0]; · iexact H0
  isplitl [H1]; · iexact H1
  isplitl [H2]; · iexact H2
  isplitl [H3]; · iexact H3
  iexact H4

end Cert.KernelIdeal.Mlp

end
-- ==== Proof.MlpRunD.lean ====
/-
  The feed-forward call's body at a point that only accumulates, at any values.
-/
module

public import proofs.«01_k».proof.Proof.MlpBase
public import Idealize.ShloMosaic.Lib.VecWindow

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

/-- The offsets of a load or store of a whole buffer of two axes, and of three, are zero. -/
theorem zero2 : (![0, 0] : Fin 2 → Nat) = fun _ => 0 := by decide
theorem zero3 : (![0, 0, 0] : Fin 3 → Nat) = fun _ => 0 := by decide

set_option maxHeartbeats 1000000 in
/-- At a point that neither opens nor closes a row block nor starts copies: the result's tile gains the products of the
    normalised rows' slice, and all else is as it was. -/
theorem run_middle (c : Dev nD) (i : grid0.Coords) (arg4 : Memref sig .tc .vmem S1x1x2048 .f32) (harg4 : arg4.IsWhole) (arg5 : Memref sig .tc .vmem S1x2048x1024 .bf16) (harg5 : arg5.IsWhole)
    (arg6 : Memref sig .tc .vmem S1x1024x2048 .bf16) (harg6 : arg6.IsWhole) (arg7 : Memref sig .tc .vmem S1x2048 .f32) (harg7 : arg7.IsWhole) (arg8 : Memref sig .tc .vmem S1024x2048 .f32) (harg8 : arg8.IsWhole)
    (hc0 : ¬first i) (hc1 : ¬opens i) (hc2 : ¬starts i) (hc3 : ¬closes i)
    (w1 : Vec F S1x2048x1024 .bf16) (w2 : Vec F S1x1024x2048 .bf16) (h : Vec F S1024x2048 .bf16) (o : Vec F S1024x2048 .f32) (K : PUnit → sProp 𝕄) :
    iprop(owns (c : Thread nD τ) arg5 fullShare w1 ∗ owns (c : Thread nD τ) arg6 fullShare w2 ∗ owns (c : Thread nD τ) scH fullShare h ∗ owns (c : Thread nD τ) arg8 fullShare o
        ∗ (iprop(owns (c : Thread nD τ) arg5 fullShare w1 ∗ owns (c : Thread nD τ) arg6 fullShare w2 ∗ owns (c : Thread nD τ) scH fullShare h
            ∗ owns (c : Thread nD τ) arg8 fullShare (k0_pay23 h w1 o w2)) -∗ K ⟨⟩))
      ⊢ wp frame (wpE (defs₀ (F := F)) Variants.none c none) Set.univ
          (cc0_mlp i hbX (Memref.isWhole_whole _) hbM (Memref.isWhole_whole _) arg4 harg4 arg5 harg5 arg6 harg6 arg7 harg7 arg8 harg8 scH (Memref.isWhole_whole _) scX (Memref.isWhole_whole _) scM (Memref.isWhole_whole _) cc0_scratch3) K := by
  simp only [cc0_mlp_eq_skeleton]; unfold cc0_mlp_skel; simp only [k0_part6_eq_skeleton]; unfold k0_part6_skel
  unfold owns
  iintro ⟨⟨%f1, %hf1, H1⟩, ⟨%f2, %hf2, H2⟩, ⟨%fh, %hfh, Hh⟩, ⟨%fo, %hfo, Ho⟩, Hk⟩
  sl_exec (disch := first | sl_exact hc0 | sl_exact hc1 | sl_exact hc2 | sl_exact hc3)
  sl_step
  iapply Hk
  isplitl [H1]; · iexists _; isplitr; swap; · iexact H1
                  ipureintro; exact hf1
  isplitl [H2]; · iexists _; isplitr; swap; · iexact H2
                  ipureintro; exact hf2
  isplitl [Hh]; · iexists _; isplitr; swap; · iexact Hh
                  ipureintro; exact hfh
  iexists _; isplitr; swap; · iexact Ho
  ipureintro
  rw [View.read_writes_full, View.readAt_full, View.readAt_full, View.readAt_full, View.readAt_full, hf1, hf2, hfh, hfo]

end Cert.KernelIdeal.Mlp

end
-- ==== Proof.MlpBodyD.lean ====
/- The feed-forward call's body between two points' invariants, at a point that only accumulates. -/
module

public import proofs.«01_k».proof.Proof.MlpInv
public import proofs.«01_k».proof.Proof.MlpRunD

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

set_option maxHeartbeats 1000000 in
/-- The body at a point that only accumulates. -/
theorem body_middle (c : Dev nD) (t : Fin cfg0.N) (h0 : t.val % 8 ≠ 0) (h1 : ¬(t.val % 8 = 1 ∧ t.val < 248)) (h7 : t.val % 8 ≠ 7) :
    around m c t t.val (owns (c : Thread nD τ) (ms4 t) fullShare (tileAt m c (t.val - 1) (pred_lt t))) ⊢ wp frame (wpE (defs₀ (F := F)) Variants.none c none) Set.univ (bodyAt0 t) (fun _ => around m c t (t.val + 1) (owns (c : Thread nD τ) (ms4 t) fullShare (tileAt m c t.val t.isLt))) := by
  have hN : t.val < 256 := lt_of_lt_of_eq t.isLt (show cfg0.N = 256 from N_0)
  have hc0 : ¬first (grid0.coords t) := fun h => h0 (by rw [(first_iff t).mp h])
  have hc1 : ¬opens (grid0.coords t) := fun h => h0 ((opens_iff t).mp h)
  unfold around
  rw [scratchP_rows m c _ h0]
  have hc2 : ¬starts (grid0.coords t) := fun h => h1 ((starts_iff t).mp h)
  have hc3 : ¬closes (grid0.coords t) := fun h => h7 ((closes_iff t).mp h)
  rw [copyP_step m c t.val hN h0 h1]
  rw [tileAt_mid m c t h0 h7, scratchP_rows m c (t.val + 1) (by omega), rowsAt_congr m c (show (t.val + 1) / 8 = t.val / 8 by omega)]
  iintro ⟨⟨Hg, Hh, Hc⟩, ⟨%W, -, HW⟩, H0, H1, H2, H3, H4⟩
  iapply (run_middle c (grid0.coords t) (ms0 t) (hs0 t) (ms1 t) (hs1 t) (ms2 t) (hs2 t) (ms3 t) (hs3 t) (ms4 t) (hs4 t) hc0 hc1 hc2 hc3 (iblk m c 1 t) (iblk m c 2 t) (rowsAt m c t.val) (tileAt m c (t.val - 1) (pred_lt t)) _)
  isplitl [H1]; · iexact H1
  isplitl [H2]; · iexact H2
  isplitl [Hh]; · iexact Hh
  isplitl [H4]; · iexact H4
  iintro ⟨H1, H2, Hh, H4⟩
  isplitl [Hg Hh Hc]
  · isplitl [Hg]; · iexact Hg
    isplitl [Hh]; · iexact Hh
    iexact Hc
  isplitl [HW]
  · iexists W; isplitr; · ipureintro; trivial
    iexact HW
  isplitl [H0]; · iexact H0
  isplitl [H1]; · iexact H1
  isplitl [H2]; · iexact H2
  isplitl [H3]; · iexact H3
  iexact H4

end Cert.KernelIdeal.Mlp

end
-- ==== Proof.MlpRunE.lean ====
/-
  The feed-forward call's body at a row block's last point, at any values.
-/
module

public import proofs.«01_k».proof.Proof.MlpBase
public import Idealize.ShloMosaic.Lib.VecWindow

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

set_option maxHeartbeats 1000000 in
/-- At a row block's last point: the result's tile gains the last products and is then normalised. -/
theorem run_last (c : Dev nD) (i : grid0.Coords) (arg4 : Memref sig .tc .vmem S1x1x2048 .f32) (harg4 : arg4.IsWhole) (arg5 : Memref sig .tc .vmem S1x2048x1024 .bf16) (harg5 : arg5.IsWhole)
    (arg6 : Memref sig .tc .vmem S1x1024x2048 .bf16) (harg6 : arg6.IsWhole) (arg7 : Memref sig .tc .vmem S1x2048 .f32) (harg7 : arg7.IsWhole) (arg8 : Memref sig .tc .vmem S1024x2048 .f32) (harg8 : arg8.IsWhole)
    (hc0 : ¬first i) (hc1 : ¬opens i) (hc2 : ¬starts i) (hc3 : closes i)
    (w1 : Vec F S1x2048x1024 .bf16) (w2 : Vec F S1x1024x2048 .bf16) (h : Vec F S1024x2048 .bf16) (g : Vec F S1x2048 .f32) (o : Vec F S1024x2048 .f32) (K : PUnit → sProp 𝕄) :
    iprop(owns (c : Thread nD τ) arg5 fullShare w1 ∗ owns (c : Thread nD τ) arg6 fullShare w2 ∗ owns (c : Thread nD τ) arg7 fullShare g ∗ owns (c : Thread nD τ) scH fullShare h ∗ owns (c : Thread nD τ) arg8 fullShare o
        ∗ (iprop(owns (c : Thread nD τ) arg5 fullShare w1 ∗ owns (c : Thread nD τ) arg6 fullShare w2 ∗ owns (c : Thread nD τ) arg7 fullShare g ∗ owns (c : Thread nD τ) scH fullShare h
            ∗ owns (c : Thread nD τ) arg8 fullShare (k0_pay1 (k0_pay23 h w1 o w2) g)) -∗ K ⟨⟩))
      ⊢ wp frame (wpE (defs₀ (F := F)) Variants.none c none) Set.univ
          (cc0_mlp i hbX (Memref.isWhole_whole _) hbM (Memref.isWhole_whole _) arg4 harg4 arg5 harg5 arg6 harg6 arg7 harg7 arg8 harg8 scH (Memref.isWhole_whole _) scX (Memref.isWhole_whole _) scM (Memref.isWhole_whole _) cc0_scratch3) K := by
  simp only [cc0_mlp_eq_skeleton]; unfold cc0_mlp_skel; simp only [k0_part6_eq_skeleton]; unfold k0_part6_skel
  unfold owns
  iintro ⟨⟨%f1, %hf1, H1⟩, ⟨%f2, %hf2, H2⟩, ⟨%f3, %hf3, H3⟩, ⟨%fh, %hfh, Hh⟩, ⟨%fo, %hfo, Ho⟩, Hk⟩
  sl_exec (disch := first | sl_exact hc0 | sl_exact hc1 | sl_exact hc2 | sl_exact hc3)
  sl_step
  iapply Hk
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [Hh]; · iexists _; isplitr; swap; · iexact Hh
                  ipureintro; exact hfh
  iexists _; isplitr; swap; · iexact Ho
  ipureintro
  sl_unfold_words
  refine (View.read_writes_full (s := S1024x2048) _ _ _ _ _).trans ?_
  refine congrArg₂ k0_pay1 ((View.readCov_full (s := S1024x2048) _ _ _ _ _).trans ?_) ((View.readAt_full (s := S1x2048) _ _ _).trans hf3)
  rw [View.readAt_full, View.readAt_full, View.readAt_full, View.readAt_full, hf1, hf2, hfh, hfo]

end Cert.KernelIdeal.Mlp

end
-- ==== Proof.MlpBodyE.lean ====
/- The feed-forward call's body between two points' invariants, at the last point of a row block. -/
module

public import proofs.«01_k».proof.Proof.MlpInv
public import proofs.«01_k».proof.Proof.MlpRunE

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

set_option maxHeartbeats 1000000 in
/-- The body at the last point of a row block. -/
theorem body_last (c : Dev nD) (t : Fin cfg0.N) (h0 : t.val % 8 ≠ 0) (h1 : ¬(t.val % 8 = 1 ∧ t.val < 248)) (h7 : t.val % 8 = 7) :
    around m c t t.val (owns (c : Thread nD τ) (ms4 t) fullShare (tileAt m c (t.val - 1) (pred_lt t))) ⊢ wp frame (wpE (defs₀ (F := F)) Variants.none c none) Set.univ (bodyAt0 t) (fun _ => around m c t (t.val + 1) (owns (c : Thread nD τ) (ms4 t) fullShare (tileAt m c t.val t.isLt))) := by
  have hN : t.val < 256 := lt_of_lt_of_eq t.isLt (show cfg0.N = 256 from N_0)
  have hc0 : ¬first (grid0.coords t) := fun h => h0 (by rw [(first_iff t).mp h])
  have hc1 : ¬opens (grid0.coords t) := fun h => h0 ((opens_iff t).mp h)
  unfold around
  rw [scratchP_rows m c _ h0]
  have hc2 : ¬starts (grid0.coords t) := fun h => h1 ((starts_iff t).mp h)
  have hc3 : closes (grid0.coords t) := (closes_iff t).mpr h7
  rw [copyP_step m c t.val hN h0 h1]
  rw [tileAt_last m c t h7, scratchP_any m c (t.val + 1) (by omega)]
  iintro ⟨⟨Hg, Hh, Hc⟩, ⟨%W, -, HW⟩, H0, H1, H2, H3, H4⟩
  iapply (run_last c (grid0.coords t) (ms0 t) (hs0 t) (ms1 t) (hs1 t) (ms2 t) (hs2 t) (ms3 t) (hs3 t) (ms4 t) (hs4 t) hc0 hc1 hc2 hc3 (iblk m c 1 t) (iblk m c 2 t) (rowsAt m c t.val) (iblk m c 3 t) (tileAt m c (t.val - 1) (pred_lt t)) _)
  isplitl [H1]; · iexact H1
  isplitl [H2]; · iexact H2
  isplitl [H3]; · iexact H3
  isplitl [Hh]; · iexact Hh
  isplitl [H4]; · iexact H4
  iintro ⟨H1, H2, H3, Hh, H4⟩
  isplitl [Hg Hh Hc]
  · isplitl [Hg]; · iexact Hg
    isplitl [Hh]; · iexists _; iexact Hh
    iexact Hc
  isplitl [HW]
  · iexists W; isplitr; · ipureintro; trivial
    iexact HW
  isplitl [H0]; · iexact H0
  isplitl [H1]; · iexact H1
  isplitl [H2]; · iexact H2
  isplitl [H3]; · iexact H3
  iexact H4

end Cert.KernelIdeal.Mlp

end
-- ==== Proof.MlpFrame.lean ====
/- The feed-forward call's frame, at any values: the proof data, the body at every point, the launch. -/
module

public import proofs.«01_k».proof.Proof.MlpBodyA
public import proofs.«01_k».proof.Proof.MlpBodyB
public import proofs.«01_k».proof.Proof.MlpBodyC
public import proofs.«01_k».proof.Proof.MlpBodyD
public import proofs.«01_k».proof.Proof.MlpBodyE
public import Idealize.ShloMosaic.Lib.Claim

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

/-- The proof data: the arrays as the region finds them; each input's buffer at its block, the result's at `tileAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileAt m c t.val t.isLt
  Φ t := PhiR m c t.val
  q _ := fullShare
  owed _ := 0

theorem A_eq (c : Dev nD) (w : Fin cfg0.W) : (dats m 0 c).A w = V m c (Pipeline.arrRef spec0 w) := by dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0' (c : Dev nD) (t : Fin cfg0.N) : (dats m 0 c).after 0 t = iblk m c 0 t := by dsimp only [dats]
theorem after0 (c : Dev nD) (t : Fin cfg0.N) : (dats m 0 c).after 0 t = gain m c := (after0' m c t).trans (gain_eq m c t)
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = tileAt m c t.val t.isLt := by dsimp only [dats]
theorem before0 (c : Dev nD) (t : Fin cfg0.N) (d) : (dats m 0 c).before 0 t d = gain m c := (found0 m (dats m 0 c) (A_eq m c 0) (after0' m c) t d).trans (gain_eq m c t)
theorem before1 (c : Dev nD) (t : Fin cfg0.N) (d) : (dats m 0 c).before 1 t d = iblk m c 1 t := found1 m (dats m 0 c) (A_eq m c 1) (after1 m c) t d
theorem before2 (c : Dev nD) (t : Fin cfg0.N) (d) : (dats m 0 c).before 2 t d = iblk m c 2 t := found2 m (dats m 0 c) (A_eq m c 2) (after2 m c) t d
theorem before3 (c : Dev nD) (t : Fin cfg0.N) (d) : (dats m 0 c).before 3 t d = iblk m c 3 t := found3 m (dats m 0 c) (A_eq m c 3) (after3 m c) t d
/-- After a row block's first point the body finds in the result's tile what the point before left. -/
theorem before4 (c : Dev nD) (t : Fin cfg0.N) (h : t.val % 8 ≠ 0) (d) : (dats m 0 c).before 4 t d = tileAt m c (t.val - 1) (pred_lt t) :=
  ((dats m 0 c).before_out_kept 4 rfl t (fun h0 => h (by rw [h0])) (Bool.eq_false_iff.mpr fun hf => by
    have := (flush0_4 ⟨t.val - 1, pred_lt t⟩).mp hf
    have h' : (t.val - 1) % 8 = 7 := this
    omega) (fun _ => rfl) (fun _ _ => rfl) d).trans (after4 m c _)

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The two, as the cases state them. -/
theorem pre_around (c : Dev nD) (t : Fin cfg0.N) (R : sProp 𝕄) (hR : iprop(∃ d, owns (c : Thread nD τ) (ms4 t) fullShare ((dats m 0 c).before 4 t d)) ⊢ R) :
    bodyPre m c t ⊢ around m c t t.val R := by
  unfold bodyPre around
  simp only [before0 m c t, before1 m c t, before2 m c t, before3 m c t]
  rw [PhiR_castSucc m c t]
  unfold Dat.owesAt Pipeline.owesWithin
  rw [show (dats m 0 c).owed t.castSucc = 0 from rfl]
  unfold PhiR
  iintro ⟨HP, ⟨%W, -, HW⟩, ⟨%d0, H0⟩, ⟨%d1, H1⟩, ⟨%d2, H2⟩, ⟨%d3, H3⟩, H4⟩
  isplitl [HP]; · iexact HP
  isplitl [HW]
  · iexists W; isplitr; · ipureintro; trivial
    iexact HW
  isplitl [H0]; · iexact H0
  isplitl [H1]; · iexact H1
  isplitl [H2]; · iexact H2
  isplitl [H3]; · iexact H3
  iapply hR; iexact H4
theorem post_around (c : Dev nD) (t : Fin cfg0.N) :
    around m c t (t.val + 1) (owns (c : Thread nD τ) (ms4 t) fullShare (tileAt m c t.val t.isLt)) ⊢ bodyPost m c t := by
  unfold bodyPost around
  rw [after0, after1, after2, after3, after4, PhiR_succ m c t]
  unfold Dat.owesAt Pipeline.owesWithin
  rw [show (dats m 0 c).owed t.succ = 0 from rfl]
  unfold PhiR
  iintro ⟨HP, ⟨%W, -, HW⟩, HR⟩
  isplitl [HP]; · iexact HP
  isplitl [HW]
  · iexists W; isplitr; · ipureintro; exact fun _ _ => Or.inl trivial
    iexact HW
  iexact HR

/-- The body at any point, by the point's place in its row block. -/
theorem sound_body (c : Dev nD) (t : Fin cfg0.N) :
    bodyPre m c t ⊢ wp frame (wpE (defs₀ (F := F)) Variants.none c none) Set.univ (bodyAt0 t) (fun _ => bodyPost m c t) := by
  have hany : iprop(∃ d, owns (c : Thread nD τ) (ms4 t) fullShare ((dats m 0 c).before 4 t d)) ⊢ (iprop(∃ o, owns (c : Thread nD τ) (ms4 t) fullShare o) : sProp 𝕄) := by
    iintro ⟨%d, H⟩; iexists _; iexact H
  have hprev (h : t.val % 8 ≠ 0) : iprop(∃ d, owns (c : Thread nD τ) (ms4 t) fullShare ((dats m 0 c).before 4 t d)) ⊢ (owns (c : Thread nD τ) (ms4 t) fullShare (tileAt m c (t.val - 1) (pred_lt t)) : sProp 𝕄) := by
    simp only [before4 m c t h]; iintro ⟨%d, H⟩; iexact H
  have fin {P : sProp 𝕄} (h : P ⊢ wp frame (wpE (defs₀ (F := F)) Variants.none c none) Set.univ (bodyAt0 t) (fun _ => around m c t (t.val + 1) (owns (c : Thread nD τ) (ms4 t) fullShare (tileAt m c t.val t.isLt)))) :
      P ⊢ wp frame (wpE (defs₀ (F := F)) Variants.none c none) Set.univ (bodyAt0 t) (fun _ => bodyPost m c t) :=
    triple_restated h rfl .rfl fun _ => post_around m c t
  by_cases h0 : t.val % 8 = 0
  · by_cases hz : t.val = 0
    · exact (pre_around m c t _ hany).trans (fin (body_first m c t h0 hz))
    · exact (pre_around m c t _ hany).trans (fin (body_open m c t h0 hz))
  · by_cases h1 : t.val % 8 = 1 ∧ t.val < 248
    · exact (pre_around m c t _ (hprev h0)).trans (fin (body_start m c t h0 h1))
    · by_cases h7 : t.val % 8 = 7
      · exact (pre_around m c t _ (hprev h0)).trans (fin (body_last m c t h0 h1 h7))
      · exact (pre_around m c t _ (hprev h0)).trans (fin (body_middle m c t h0 h1 h7))

/-! ## The launch -/

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over holds before the first point; what holds after the last one gives it back. -/
theorem hin (c : Dev nD) : Pipeline.ΦD osem spec0 HB (V m) c ⊢ (dats m 0 c).Φ 0 := by
  rw [launched_eq, show (dats m 0 c).Φ 0 = PhiR m c 0 from rfl]
  unfold PhiR
  rw [scratchP_any m c 0 rfl, copyP_idle m c 0 (by unfold flying; omega)]
  unfold idleP owns
  iintro ⟨⟨Hh, ⟨%dX, %fX, -, HX⟩, ⟨%dM, %fM, -, HM⟩⟩, Hg, ⟨Hs8, Hs9⟩, HWX, HWM⟩
  isplitl [Hg]; · iexact Hg
  isplitl [Hh]; · iexact Hh
  isplitl [HX]; · iexists fX; iexact HX
  isplitl [HM]; · iexists fM; iexact HM
  isplitl [Hs8]; · iexact Hs8
  isplitl [Hs9]; · iexact Hs9
  isplitl [HWX]; · iexact HWX
  iexact HWM
theorem hout (c : Dev nD) : (dats m 0 c).Φ (Fin.last cfg0.N) ⊢ Pipeline.ΦD osem spec0 HB (V m) c := by
  rw [launched_eq, show (dats m 0 c).Φ (Fin.last cfg0.N) = PhiR m c grid0.N from rfl, show grid0.N = 256 by rw [N_0]]
  unfold PhiR
  rw [scratchP_any m c 256 rfl, copyP_idle m c 256 (by unfold flying; omega)]
  unfold idleP owns
  iintro ⟨Hg, Hh, ⟨%fX, HX⟩, ⟨%fM, HM⟩, Hs8, Hs9, HWX, HWM⟩
  isplitl [Hh HX HM]
  · isplitl [Hh]; · iexact Hh
    isplitl [HX]
    · iexists _; iexists fX; isplitr; · ipureintro; exact rfl
      iexact HX
    iexists _; iexists fM; isplitr; · ipureintro; exact rfl
    iexact HM
  isplitl [Hg]; · iexact Hg
  isplitl [Hs8 Hs9]
  · isplitl [Hs8]; · iexact Hs8
    iexact Hs9
  isplitl [HWX]; · iexact HWX
  iexact HWM

variable (ρ : Dev nD → PrngReg)

set_option backward.isDefEq.respectTransparency.types false in
/-- Every fair run of @main ends, the arrays as the proof data leave them, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts HB HB_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have kept (c : Dev nD) (r) (h : Pipeline.FramePost cfgs (dats m) 0 (V m) r) (b : Ref sig .tc) (hb : b ∈ Pipeline.restRefs sig spec0)
      (hV : V m c b = m ((c.tc : Thread nD τ).loc b)) : r.2.mem ((c.tc : Thread nD τ).loc b) = m ((c.tc : Thread nD τ).loc b) := ((h c).2 b hb).trans hV
  (θ_run defs _ _).mono (fun r h c => ⟨
      kept c r h main_arg0 (Pipeline.mem_restRefs_of main_arg0 (by decide) (by decide)) (V_main_arg0 m c),
      kept c r h main_arg1 (Pipeline.mem_restRefs_of main_arg1 (by decide) (by decide)) (V_main_arg1 m c),
      kept c r h main_arg2 (Pipeline.mem_restRefs_of main_arg2 (by decide) (by decide)) (V_main_arg2 m c),
      kept c r h main_arg3 (Pipeline.mem_restRefs_of main_arg3 (by decide) (by decide)) (V_main_arg3 m c),
      kept c r h main_arg4 (Pipeline.mem_restRefs_of main_arg4 (by decide) (by decide)) (V_main_arg4 m c),
      kept c r h main_arg5 (Pipeline.mem_restRefs_of main_arg5 (by decide) (by decide)) (V_main_arg5 m c)⟩) (run_main m ρ)

/-- The frame: every fair run ends, the arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Mlp

end
-- ==== Proof.MlpValue.lean ====
/- The feed-forward kernel's result array, entry by entry: the tile each grid point leaves, then the array those tiles make. -/
module

public import proofs.«01_k».proof.Proof.MlpPay
public import proofs.«01_k».proof.Proof.MlpFrame

@[expose] public section

set_option maxRecDepth 16384

noncomputable section

namespace Cert.KernelIdeal.Mlp

open Cert.KernelIdeal Cert.KernelIdeal.Gen Idealize.ShloMosaic Idealize.ShloMosaic.TcCoe Idealize.SL.Sem
open scoped BigOperators

variable (m : (ℓ : Loc nD τ sig) → Buf (Elt Ideal) ℓ)

/-- The windows' block indices at a grid point. -/
theorem idx_win : ∀ t : Fin cfg0.N, win0_0.index t (0 : Fin 3) = 3 ∧ win0_0.index t (1 : Fin 3) = 0 ∧ win0_0.index t (2 : Fin 3) = 0
    ∧ win0_1.index t (0 : Fin 3) = 3 ∧ win0_1.index t (1 : Fin 3) = 0 ∧ win0_1.index t (2 : Fin 3) = t.val % 8
    ∧ win0_2.index t (0 : Fin 3) = 3 ∧ win0_2.index t (1 : Fin 3) = t.val % 8 ∧ win0_2.index t (2 : Fin 3) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

/-- The gain array the region reads is the gain argument, laid with a unit axis in the middle. -/
theorem V_gain (c : Dev nD) (l : Fin 4) (k : Fin 2048) : V m c main_v2 (ix3 l 0 k) = m ((c : Thread nD τ).loc main_arg2) (ix2 l k) := by
  have h : V m c main_v2 = broadcastInDim S4x1x2048 ![0, 2] bcast_S4x2048_S4x1x2048_0_2 (m ((c : Thread nD τ).loc main_arg2)) := by
    unfold V hostOps0; after_results
  rw [h]
  pointwise

/-- The two weight arrays the region reads are the weight arguments (a change of format only). -/
theorem V_w1 (c : Dev nD) (i : S4x2048x8192.Idx) : V m c main_v0 i = m ((c : Thread nD τ).loc main_arg3) i := by
  have h : V m c main_v0 = (truncf .bf16 (m ((c : Thread nD τ).loc main_arg3) : FVec Ideal S4x2048x8192 .f32) bitsLt_bf16_f32 : FVec Ideal S4x2048x8192 .bf16) := by
    unfold V hostOps0; after_results
  rw [h]
  rfl
theorem V_w2 (c : Dev nD) (i : S4x8192x2048.Idx) : V m c main_v1 i = m ((c : Thread nD τ).loc main_arg4) i := by
  have h : V m c main_v1 = (truncf .bf16 (m ((c : Thread nD τ).loc main_arg4) : FVec Ideal S4x8192x2048 .f32) bitsLt_bf16_f32 : FVec Ideal S4x8192x2048 .bf16) := by
    unfold V hostOps0; after_results
  rw [h]
  rfl

/-- The closing norm's gain, laid as one row. -/
theorem V_fin (c : Dev nD) (k : Fin 2048) : V m c main_v3 (ix2 0 k) = m ((c : Thread nD τ).loc main_arg5) (ix1 k) := by
  have h : V m c main_v3 = (shapeCast S1x2048 (m ((c : Thread nD τ).loc main_arg5) : FVec Ideal S2048 .f32) shapeCasts_S2048_S1x2048 : FVec Ideal S1x2048 .f32) := by
    unfold V hostOps0; after_results; rfl
  rw [h]
  pointwise

/-- The last layer's gain row. -/
theorem gain_apply (c : Dev nD) (k : Fin 2048) : gain m c (ix3 0 0 k) = m ((c : Thread nD τ).loc main_arg2) (ix2 3 k) := by
  obtain ⟨e0, e1, e2, -⟩ := idx_win ⟨0, by decide⟩
  unfold gain iblk
  rw [View.read_apply, ← V_gain m c 3 k]
  show V m c main_v2 _ = _
  congr 1
  funext a
  apply Fin.ext
  match a with
  | ⟨0, _⟩ => show win0_0.index _ (0 : Fin 3) * 1 + 1 * 0 = 3; rw [e0]
  | ⟨1, _⟩ => show win0_0.index _ (1 : Fin 3) * 1 + 1 * 0 = 0; rw [e1]
  | ⟨2, _⟩ => show win0_0.index _ (2 : Fin 3) * 2048 + 1 * k.val = k.val; rw [e2]; omega

/-- Column block `t % 8` of the last layer's first weights, -/
theorem w1_apply (c : Dev nD) (t : Fin cfg0.N) (k : Fin 2048) (y : Fin 1024) (j : Fin 8192) (hj : j.val = t.val % 8 * 1024 + y.val) :
    (iblk m c 1 t : Vec Ideal S1x2048x1024 .bf16) (ix3 0 k y) = m ((c : Thread nD τ).loc main_arg3) (ix3 3 k j) := by
  obtain ⟨-, -, -, e0, e1, e2, -⟩ := idx_win t
  unfold iblk
  rw [View.read_apply, ← V_w1 m c]
  show V m c main_v0 _ = _
  congr 1
  funext a
  apply Fin.ext
  match a with
  | ⟨0, _⟩ => show win0_1.index t (0 : Fin 3) * 1 + 1 * 0 = 3; rw [e0]
  | ⟨1, _⟩ => show win0_1.index t (1 : Fin 3) * 2048 + 1 * k.val = k.val; rw [e1]; omega
  | ⟨2, _⟩ => show win0_1.index t (2 : Fin 3) * 1024 + 1 * y.val = j.val; rw [e2, hj]; omega

/-- row block `t % 8` of its second weights, -/
theorem w2_apply (c : Dev nD) (t : Fin cfg0.N) (y : Fin 1024) (p : Fin 2048) (j : Fin 8192) (hj : j.val = t.val % 8 * 1024 + y.val) :
    (iblk m c 2 t : Vec Ideal S1x1024x2048 .bf16) (ix3 0 y p) = m ((c : Thread nD τ).loc main_arg4) (ix3 3 j p) := by
  obtain ⟨-, -, -, -, -, -, e0, e1, e2, -⟩ := idx_win t
  unfold iblk
  rw [View.read_apply, ← V_w2 m c]
  show V m c main_v1 _ = _
  congr 1
  funext a
  apply Fin.ext
  match a with
  | ⟨0, _⟩ => show win0_2.index t (0 : Fin 3) * 1 + 1 * 0 = 3; rw [e0]
  | ⟨1, _⟩ => show win0_2.index t (1 : Fin 3) * 1024 + 1 * y.val = j.val; rw [e1, hj]; omega
  | ⟨2, _⟩ => show win0_2.index t (2 : Fin 3) * 2048 + 1 * p.val = p.val; rw [e2]; omega

/-- and the closing norm's gain. -/
theorem fin_apply (c : Dev nD) (t : Fin cfg0.N) (k : Fin 2048) :
    (iblk m c 3 t : Vec Ideal S1x2048 .f32) (ix2 0 k) = m ((c : Thread nD τ).loc main_arg5) (ix1 k) := by
  obtain ⟨-, -, -, -, -, -, -, -, -, e0, e1, -⟩ := idx_win t
  unfold iblk
  rw [View.read_apply, ← V_fin m c k]
  show V m c main_v3 _ = _
  congr 1
  funext a
  apply Fin.ext
  match a with
  | ⟨0, _⟩ => show win0_3.index t (0 : Fin 2) * 1 + 1 * 0 = 0; rw [e0]
  | ⟨1, _⟩ => show win0_3.index t (1 : Fin 2) * 2048 + 1 * k.val = k.val; rw [e1]; omega

/-- The landed blocks: row block `n / 8` of the two operands. -/
theorem blkX_apply (c : Dev nD) (n : ℕ) (hn : n < 256) (r : Fin 1024) (k : Fin 2048) (q : Fin 32768) (hq : q.val = n / 8 * 1024 + r.val) :
    blkX m c n (ix2 r k) = m ((c : Thread nD τ).loc main_arg0) (ix2 q k) := by
  rw [← V_main_arg0 m c]
  show V m c main_arg0 _ = _
  congr 1
  funext a
  apply Fin.ext
  match a with
  | ⟨0, _⟩ => show 1024 * (n / 8 % 32) + 1 * r.val = q.val; omega
  | ⟨1, _⟩ => show 0 + 1 * k.val = k.val; omega
theorem blkM_apply (c : Dev nD) (n : ℕ) (hn : n < 256) (r : Fin 1024) (k : Fin 2048) (q : Fin 32768) (hq : q.val = n / 8 * 1024 + r.val) :
    blkM m c n (ix2 r k) = m ((c : Thread nD τ).loc main_arg1) (ix2 q k) := by
  rw [← V_main_arg1 m c]
  show V m c main_arg1 _ = _
  congr 1
  funext a
  apply Fin.ext
  match a with
  | ⟨0, _⟩ => show 1024 * (n / 8 % 32) + 1 * r.val = q.val; omega
  | ⟨1, _⟩ => show 0 + 1 * k.val = k.val; omega

/-! ## The tile, as a growing sum -/

/-- Row `q` of the two operands and of their sum, and the arguments the layer multiplies it by. -/
abbrev inX (c : Dev nD) (q : Fin 32768) (k : Fin 2048) : EReal := m ((c : Thread nD τ).loc main_arg0) (ix2 q k)
abbrev inM (c : Dev nD) (q : Fin 32768) (k : Fin 2048) : EReal := m ((c : Thread nD τ).loc main_arg1) (ix2 q k)
abbrev row (c : Dev nD) (q : Fin 32768) (k : Fin 2048) : EReal := inX m c q k + inM m c q k
abbrev gRow (c : Dev nD) (k : Fin 2048) : EReal := m ((c : Thread nD τ).loc main_arg2) (ix2 3 k)
abbrev up (c : Dev nD) (k : Fin 2048) (j : Fin 8192) : EReal := m ((c : Thread nD τ).loc main_arg3) (ix3 3 k j)
abbrev down (c : Dev nD) (j : Fin 8192) (p : Fin 2048) : EReal := m ((c : Thread nD τ).loc main_arg4) (ix3 3 j p)

/-- Activation `j`'s share of entry `p` of row `q` (nothing past the last activation). -/
def share (c : Dev nD) (q : Fin 32768) (p : Fin 2048) (j : ℕ) : EReal :=
  if h : j < 8192 then Rows.act (Rows.nrm (row m c q) (gRow m c)) (fun k => up m c k ⟨j, h⟩) * down m c ⟨j, h⟩ p else 0

theorem share_of_lt (c : Dev nD) (q : Fin 32768) (p : Fin 2048) (j : Fin 8192) :
    share m c q p j.val = Rows.act (Rows.nrm (row m c q) (gRow m c)) (fun k => up m c k j) * down m c j p := dif_pos j.isLt

/-- The kept rows at point `t`: row `r` of the block is the normalised row of the sum of the operands. -/
theorem rows_apply (c : Dev nD) (n : ℕ) (hn : n < 256) (r : Fin 1024) (q : Fin 32768) (hq : q.val = n / 8 * 1024 + r.val) (k : Fin 2048) :
    (rowsAt m c n (ix2 r k) : EReal) = Rows.nrm (row m c q) (gRow m c) k := by
  unfold rowsAt
  rw [rowV_apply]
  congr 1
  · funext k
    rw [blkX_apply m c n hn r k q hq, blkM_apply m c n hn r k q hq]
  · funext k
    exact gain_apply m c k

/-- One step at point `t` adds the shares of activations `1024 (t % 8) …`. -/
theorem step_share (c : Dev nD) (t : Fin cfg0.N) (a : Vec Ideal S1024x2048 .f32) (r : Fin 1024) (p : Fin 2048) (q : Fin 32768) (hq : q.val = t.val / 8 * 1024 + r.val) :
    k0_pay23 (F := Ideal) (rowsAt m c t.val) (iblk m c 1 t) a (iblk m c 2 t) (ix2 r p)
      = (a (ix2 r p) + ∑ j ∈ Finset.range 1024, share m c q p (t.val % 8 * 1024 + j) : EReal) := by
  have ht : t.val < 256 := lt_of_lt_of_eq t.isLt N_0
  refine (step_apply _ _ _ _ r p).trans (congrArg (fun s : EReal => (a (ix2 r p) : EReal) + s) ?_)
  rw [Finset.sum_range]
  refine Finset.sum_congr rfl fun y _ => ?_
  obtain ⟨j, hj⟩ : ∃ j : Fin 8192, j.val = t.val % 8 * 1024 + y.val := ⟨⟨t.val % 8 * 1024 + y.val, by have := y.isLt; omega⟩, rfl⟩
  rw [← hj, share_of_lt]
  refine congrArg₂ (fun u v : EReal => u * v) (congrArg₂ Rows.act (funext fun k => ?_) (funext fun k => ?_)) ?_
  · exact rows_apply m c t.val ht r q hq k
  · exact w1_apply m c t k y j hj
  · exact w2_apply m c t y p j hj

/-- Before the last point of a row block the tile holds the row's entry plus the shares so far. -/
theorem tile_partial (c : Dev nD) (r : Fin 1024) (p : Fin 2048) : ∀ (n : ℕ) (h : n < cfg0.N) (q : Fin 32768), q.val = n / 8 * 1024 + r.val → n % 8 ≠ 7 →
    tileAt m c n h (ix2 r p) = row m c q p + ∑ j ∈ Finset.range ((n % 8 + 1) * 1024), share m c q p j := by
  have base : ∀ (n : ℕ) (h : n < cfg0.N) (q : Fin 32768), q.val = n / 8 * 1024 + r.val → n % 8 = 0 →
      tileAt m c n h (ix2 r p) = row m c q p + ∑ j ∈ Finset.range ((n % 8 + 1) * 1024), share m c q p j := by
    intro n h q hq h0
    have hn : n < 256 := lt_of_lt_of_eq h N_0
    rw [tileAt_open m c ⟨n, h⟩ h0]
    refine (step_share m c ⟨n, h⟩ _ r p q hq).trans ?_
    unfold sumAt
    rw [sumV_apply, blkX_apply m c n hn r p q hq, blkM_apply m c n hn r p q hq]
    simp only [h0, Nat.zero_mul, Nat.zero_add, Nat.one_mul]
  intro n
  induction n with
  | zero => intro h q hq _; exact base 0 h q hq rfl
  | succ n ih =>
    intro h q hq h7
    by_cases h0 : (n + 1) % 8 = 0
    · exact base _ h q hq h0
    · rw [tileAt_mid m c ⟨n + 1, h⟩ h0 h7]
      refine (step_share m c ⟨n + 1, h⟩ _ r p q hq).trans ?_
      rw [show tileAt m c ((⟨n + 1, h⟩ : Fin cfg0.N).val - 1) _ (ix2 r p) = _ from
        ih (Nat.lt_of_succ_lt h) q (by rw [hq]; congr 2; omega) (by omega), add_assoc]
      congr 1
      rw [show (n + 1) % 8 = n % 8 + 1 by omega, show (n % 8 + 1 + 1) * 1024 = (n % 8 + 1) * 1024 + 1024 by omega, Finset.sum_range_add]

/-- At a row block's last point the tile holds the closing norm of the whole row after the layer. -/
theorem tile_last (c : Dev nD) (t : Fin cfg0.N) (h7 : t.val % 8 = 7) (r : Fin 1024) (p : Fin 2048) (q : Fin 32768) (hq : q.val = t.val / 8 * 1024 + r.val)
    (p' : Fin 2048) (hp : p'.val = p.val) :
    tileAt m c t.val t.isLt (ix2 r p)
      = Rows.nrm (fun k => Rows.ffn (row m c q) (gRow m c) (up m c) (down m c) k) (fun k => m ((c : Thread nD τ).loc main_arg5) (ix1 k)) p' := by
  obtain rfl : p' = p := Fin.ext hp
  rw [tileAt_last m c t h7, close_apply]
  congr 1
  · funext k
    refine (step_share m c t _ r k q hq).trans ?_
    rw [tile_partial m c r k (t.val - 1) _ q (by rw [hq]; congr 2; omega) (by omega), add_assoc]
    unfold Rows.ffn
    congr 1
    rw [show t.val % 8 * 1024 = 7168 by omega, show ((t.val - 1) % 8 + 1) * 1024 = 7168 by omega, ← Finset.sum_range_add]
    rw [show 7168 + 1024 = 8192 from rfl, Finset.sum_range]
    exact Finset.sum_congr rfl fun j _ => share_of_lt m c q k j
  · funext k
    exact fin_apply m c t k

/-- The result: entry `p` of row `q` is the closing norm of the row after the layer. -/
def result (c : Dev nD) : Buf (Elt Ideal) ((c : Thread nD τ).loc main_v4) := fun i : S32768x2048.Idx =>
  (Rows.nrm (fun k => Rows.ffn (row m c (i 0)) (gRow m c) (up m c) (down m c) k) (fun k => m ((c : Thread nD τ).loc main_arg5) (ix1 k)) (i 1) : EReal)

/-- What a row block's last point writes back is its block of `result`. -/
theorem flushed_eq (c : Dev nD) (t : Fin cfg0.N) (hf : (cfg0.win 4).flush t = true) :
    (dats m 0 c).flushed 4 t = ((cfg0.win 4).blk t).view.read (Elt Ideal) (result m c) := by
  have h7 := (flush0_4 t).mp hf
  obtain ⟨-, -, -, -, -, -, -, -, -, -, -, e0, e1⟩ := idx_win t
  show (cfg0.win 4).cut (grid0.coords t) ((dats m 0 c).after 4 t) = _
  rw [after4]
  funext y
  obtain ⟨r, k, rfl⟩ : ∃ (r : Fin 1024) (k : Fin 2048), y = ix2 r k := ⟨y 0, y 1, eq_ix2 y⟩
  rw [View.read_apply]
  unfold result
  show tileAt m c t.val t.isLt (ix2 r k) = _
  refine tile_last m c t h7 r k _ ?_ _ ?_
  · show win0_4.index t (0 : Fin 2) * 1024 + 1 * r.val = _; omega
  · show win0_4.index t (1 : Fin 2) * 2048 + 1 * k.val = _; omega

/-- An index of the array is in a point's block iff each coordinate is in the block's range on its axis. -/
theorem mem_blk (t : Fin cfg0.N) (i : S32768x2048.Idx) : i ∈ ((cfg0.win 4).blk t).view.set
    ↔ ∀ a : Fin 2, win0_4.index t a * S1024x2048.size a ≤ (i a).val ∧ (i a).val < win0_4.index t a * S1024x2048.size a + S1024x2048.size a := by
  show i ∈ ((View.whole main_v4).slice (win0_4.rect t)).set ↔ _
  rw [View.set_slice_whole, Rect.mem_set_unit]
  exact Iff.rfl

/-- Every index of the result lies in the block of its row block's last point. -/
theorem covered (i : S32768x2048.Idx) : ∃ t : Fin cfg0.N, (cfg0.win 4).flush t = true ∧ i ∈ ((cfg0.win 4).blk t).view.set := by
  have h0 : (i 0).val < 32768 := (i 0).isLt
  have h1 : (i 1).val < 2048 := (i 1).isLt
  have hN : cfg0.N = 256 := N_0
  have ht : (i 0).val / 1024 * 8 + 7 < cfg0.N := by omega
  obtain ⟨-, -, -, -, -, -, -, -, -, -, -, e0, e1⟩ := idx_win ⟨_, ht⟩
  refine ⟨⟨_, ht⟩, (flush0_4 _).mpr (by show ((i 0).val / 1024 * 8 + 7) % 8 = 7; omega), (mem_blk _ i).mpr fun a => ?_⟩
  have e0' : win0_4.index ⟨_, ht⟩ (0 : Fin 2) = (i 0).val / 1024 := e0.trans (by show ((i 0).val / 1024 * 8 + 7) / 8 = _; omega)
  match a with
  | ⟨0, _⟩ => show win0_4.index ⟨_, ht⟩ (0 : Fin 2) * 1024 ≤ (i 0).val ∧ (i 0).val < win0_4.index ⟨_, ht⟩ (0 : Fin 2) * 1024 + 1024; omega
  | ⟨1, _⟩ => show win0_4.index ⟨_, ht⟩ (1 : Fin 2) * 2048 ≤ (i 1).val ∧ (i 1).val < win0_4.index ⟨_, ht⟩ (1 : Fin 2) * 2048 + 2048; omega

/-- The kernel's run at the extended reals: the result array is `result`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 4).trans ((dats m 0 c).arrAt_eq_of_cover 4 _ (flushed_eq m c) covered), h.2 c⟩)
    (θ_run_and (run_main m ρ) (unchanged m ρ))

end Cert.KernelIdeal.Mlp

end
-- ==== Proof.MlpRef.lean ====
/- The feed-forward call's reference, read entry by entry over the extended reals. -/
module

public import proofs.«01_k».proof.Proof.Rows
public import proofs.«01_k».proof.Proof.Gen.ReferenceIdeal.Read

@[expose] public section

set_option maxRecDepth 16384

noncomputable section

namespace Cert.ReferenceIdeal.Tile

open Cert.ReferenceIdeal Cert.ReferenceIdeal.Gen Cert.ReferenceIdeal.Read Idealize.ShloMosaic
open scoped BigOperators

section
variable (x m : Vec Ideal S32768x2048 .f32) (g : Vec Ideal S4x2048 .f32) (w1 : Vec Ideal S4x2048x8192 .f32) (w2 : Vec Ideal S4x8192x2048 .f32)
  (gf : Vec Ideal S2048 .f32)

/-- The normalised row of the sum of the two operands, with the last layer's gain. -/
theorem rows_apply (q : Fin 32768) (k : Fin 2048) : val_main_v15 (F := Ideal) x m g (ix2 q k)
    = Rows.nrm (fun k => (x (ix2 q k) + m (ix2 q k) : EReal)) (fun k => g (ix2 3 k)) k := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Rows.nrm, Rows.scale]

/-- One squared activation. -/
theorem act_apply (q : Fin 32768) (j : Fin 8192) : val_main_v20 (F := Ideal) x m g w1 (ix2 q j)
    = Rows.act (fun k => val_main_v15 (F := Ideal) x m g (ix2 q k)) (fun k => w1 (ix3 3 k j)) := by
  pointwise [val_main_v20, val_main_v19, val_main_call0_v0, val_main_call0_cst, val_main_v18, val_main_v17, val_main_v16, Rows.act]

/-- The row after the layer. -/
theorem ffn_apply (q : Fin 32768) (p : Fin 2048) : val_main_v24 (F := Ideal) x m g w1 w2 (ix2 q p)
    = Rows.ffn (fun k => (x (ix2 q k) + m (ix2 q k) : EReal)) (fun k => g (ix2 3 k)) (fun k j => w1 (ix3 3 k j)) (fun j p => w2 (ix3 3 j p)) p := by
  have h : val_main_v24 (F := Ideal) x m g w1 w2 (ix2 q p)
      = (x (ix2 q p) + m (ix2 q p)) + ∑ j : Fin 8192, val_main_v20 (F := Ideal) x m g w1 (ix2 q j) * w2 (ix3 3 j p) := by
    pointwise [val_main_v24, val_main_v23, val_main_v22, val_main_v21, val_main_v0]
  rw [h]
  simp only [act_apply, rows_apply]
  rfl

/-- The reference's result: the closing norm of the row after the layer. -/
theorem result_apply (q : Fin 32768) (p : Fin 2048) : val_main_v37 (F := Ideal) x m g w1 w2 gf (ix2 q p)
    = Rows.nrm (fun k => Rows.ffn (fun k => (x (ix2 q k) + m (ix2 q k) : EReal)) (fun k => g (ix2 3 k)) (fun k j => w1 (ix3 3 k j)) (fun j p => w2 (ix3 3 j p)) k)
        (fun k => gf (ix1 k)) p := by
  have h : val_main_v37 (F := Ideal) x m g w1 w2 gf (ix2 q p)
      = Rows.nrm (fun k => val_main_v24 (F := Ideal) x m g w1 w2 (ix2 q k)) (fun k => gf (ix1 k)) p := by
    pointwise [val_main_v37, val_main_v36, val_main_v35, val_main_v34, val_main_v33, val_main_v32, val_main_v31, val_main_v30, val_main_v29,
      val_main_v28, val_main_v27, val_main_v26, val_main_v25, val_main_cst_2, val_main_cst_3, val_main_cst_4, Rows.nrm, Rows.scale]
  rw [h]
  simp only [ffn_apply]

end

end Cert.ReferenceIdeal.Tile

end
-- ==== Proof.MlpClaim.lean ====
/- The feed-forward call's value claim: over the extended reals the kernel and its reference end with one array. -/
module

public import proofs.«01_k».proof.Defs
public import proofs.«01_k».proof.Proof.MlpValue
public import proofs.«01_k».proof.Proof.MlpRef
public import Idealize.ShloMosaic.Lib.Quiescent

@[expose] public section

set_option maxRecDepth 16384

noncomputable section

namespace Cert.Proof

open Idealize.ShloMosaic Idealize.SL.Sem

/-- From memories that agree on the arguments the feed-forward kernel and its reference end with equal results. -/
theorem algebraic_mlp : Cert.algebraic_KernelIdeal_ReferenceIdeal := by
  intro m g m' g' _ hagree
  refine ⟨fun c => KernelIdeal.Mlp.result m c, KernelIdeal.Mlp.run m g, ?_⟩
  refine (θ_run _ _ _).mono (fun r h c => ⟨(h c).1.trans ?_, (h c).2⟩) (ReferenceIdeal.Value.run (F := Ideal) m' g')
  obtain ⟨h0, h1, h2, h3, h4, h5⟩ := hagree c
  refine (ReferenceIdeal.Read.val_main_v37_eq _ _).trans ?_
  rw [h0, h1, h2, h3, h4, h5]
  funext i
  obtain ⟨q, p, rfl⟩ : ∃ (q : Fin 32768) (p : Fin 2048), i = ix2 q p := ⟨i 0, i 1, eq_ix2 i⟩
  exact ReferenceIdeal.Tile.result_apply _ _ _ _ _ _ q p

/-- The reference terminates with its arguments unchanged and no semaphore counted up (it declares none). -/
theorem frame_mlpRef : Cert.quiescent_ReferenceIdeal := fun m g _ =>
  (θ_run _ _ _).mono (fun r h => ⟨fun c => (h c).2, sem_eq_zero_of_no_sems rfl r.2⟩) (ReferenceIdeal.Value.run (F := Ideal) m g)

end Cert.Proof

end
-- ==== Proof.Mid.MlpBase.lean ====
/-
  The kernel of the feed-forward call of a layer that is not the last, so without a closing norm, at any values: what its body
  holds and moves, named once. The residual stream `x` and
  the mixer's output stay in HBM; the body copies the row block it needs of each into a scratch of its own, the copies of
  the next row block being started at the second point of a row block's eight and waited for at the first point of the
  next row block's.
-/
module

public import proofs.«01_k».proof.Proof.Gen.MidIdeal.Frame
public import proofs.«01_k».proof.Proof.Gen.MidIdeal.Skeleton

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

set_option maxHeartbeats 800000 in
/-- @main up to the region, at this algebra: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- A window that is only read holds its block at every point. -/
theorem found0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Which of the body's three conditions holds at a point -/

abbrev first (i : grid0.Coords) : Prop := k0_cond1 i = 1#1
abbrev opens (i : grid0.Coords) : Prop := k0_cond2 i = 1#1
abbrev starts (i : grid0.Coords) : Prop := k0_cond3 i = 1#1

/-- The very first point. -/
theorem first_iff : ∀ t : Fin cfg0.N, first (grid0.coords t) ↔ t.val = 0 :=
  (by decide +kernel : ∀ t : Fin grid0.N, first (grid0.coords t) ↔ t.val = 0)
/-- The first point of a row block. -/
theorem opens_iff : ∀ t : Fin cfg0.N, opens (grid0.coords t) ↔ t.val % 8 = 0 :=
  (by decide +kernel : ∀ t : Fin grid0.N, opens (grid0.coords t) ↔ t.val % 8 = 0)
/-- The second point of a row block that is not the last. -/
theorem starts_iff : ∀ t : Fin cfg0.N, starts (grid0.coords t) ↔ t.val % 8 = 1 ∧ t.val < 248 :=
  (by decide +kernel : ∀ t : Fin grid0.N, starts (grid0.coords t) ↔ t.val % 8 = 1 ∧ t.val < 248)

/-! ## What the body is called with -/

abbrev ms0 (t : Fin cfg0.N) : Memref sig .tc .vmem S1x1x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x2048 .f32 := win0_4.stage (cfg0.slots t 4)
abbrev hs4 (t : Fin cfg0.N) : (ms4 t).IsWhole := hstage0_4 ((cfg0.slots t 4).cast nbuf0_4)
/-- The scratch: the normalised rows, and the landing places of the two copies. -/
abbrev scH : Memref sig .tc .vmem S1024x2048 .bf16 := Memref.whole cc0_scratch0
abbrev scX : Memref sig .tc .vmem S1024x2048 .f32 := Memref.whole cc0_scratch1
abbrev scM : Memref sig .tc .vmem S1024x2048 .f32 := Memref.whole cc0_scratch2
/-- The two operands left in HBM. -/
abbrev hbX : Memref sig .tc .hbm S32768x2048 .f32 := Memref.whole main_arg0
abbrev hbM : Memref sig .tc .hbm S32768x2048 .f32 := Memref.whole main_arg1
/-- A memref's buffer on core `c`, and that buffer held whole. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- The body's two cells, and the two operands its copies read. -/
abbrev osem : Fin 2 → SemLoc sig := fun j => (![SemLoc.dma 8, SemLoc.dma 9] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0 ∗ semVal ((c : Thread nD τ), SemLoc.dma 9) 0) := by
  rw [Pipeline.ownSems0_eq_of_list c osem [0, 1] (by decide) (by decide)]; rfl
def HB : Finset (Ref sig .tc) := {main_arg0, main_arg1}
theorem HB_sub : HB ⊆ Pipeline.restRefs sig spec0 := by decide
theorem hbPts_eq (c : Dev nD) :
    (bigSep HB (fun b => ((c : Thread nD τ).loc b) ↦{fullShare} V m c b) : sProp 𝕄) = iprop(held c hbX (V m c main_arg0) ∗ held c hbM (V m c main_arg1)) := by
  rw [BI.bigSep_eq_bigSepL_of_eq [main_arg0, main_arg1] (by decide) (by decide)]; rfl

/-- What the launch hands the region and takes back, listed. -/
theorem launched_eq (c : Dev nD) :
    (Pipeline.ΦD osem spec0 HB (V m) c : sProp 𝕄)
      = iprop(iprop((∃ d, owns (c : Thread nD τ) scH fullShare d) ∗ (∃ d, owns (c : Thread nD τ) scX fullShare d) ∗ (∃ d, owns (c : Thread nD τ) scM fullShare d))
          ∗ (∃ r, prngReg c r)
          ∗ iprop(semVal ((c : Thread nD τ), SemLoc.dma 8) 0 ∗ semVal ((c : Thread nD τ), SemLoc.dma 9) 0)
          ∗ iprop(held c hbX (V m c main_arg0) ∗ held c hbM (V m c main_arg1))) := by
  rw [Pipeline.ΦD_eq, scopedRest0_eq, ownSems_eq, hbPts_eq]; simp only [scH, scX, scM, owns_whole]; try rfl

/-! ## The row blocks of the two operands, and a copy of one in flight -/

theorem inb_rows (b : Fin 32) : ∀ a, (![1024 * b.val, 0] : Fin 2 → Nat) a + S1024x2048.size a ≤ S32768x2048.size a := by
  have := b.isLt; intro a; fin_cases a <;> simp <;> omega
/-- Row block `b` of an operand left in HBM. -/
def rows (M : Memref sig .tc .hbm S32768x2048 .f32) (b : Fin 32) : Memref sig .tc .hbm S1024x2048 .f32 :=
  M.slice (Rect.unit (s := S32768x2048) ![1024 * b.val, 0] S1024x2048.size (inb_rows b)) (fun _ => rfl)
/-- The row block after point `t`'s. -/
def nextB (n : ℕ) : Fin 32 := ⟨(n / 8 + 1) % 32, Nat.mod_lt _ (by decide)⟩
/-- The row block of point `t`. -/
def curB (n : ℕ) : Fin 32 := ⟨n / 8 % 32, Nat.mod_lt _ (by decide)⟩

section Flight
variable (c : Dev nD)
/-- Row block `b`'s elements held, the operand's others held, and the landing place held. -/
abbrev blockP (M : Memref sig .tc .hbm S32768x2048 .f32) (W : BufOf (F := F) c M) (b : Fin 32) : sProp 𝕄 :=
  (rows M b).view.loc (c : Thread nD τ) ↦[(rows M b).view.set]{fullShare} W
def otherP (M : Memref sig .tc .hbm S32768x2048 .f32) (W : BufOf (F := F) c M) (b : Fin 32) : sProp 𝕄 :=
  M.view.loc (c : Thread nD τ) ↦[Finset.univ \ (rows M b).view.set]{fullShare} W
abbrev placeP (S : Memref sig .tc .vmem S1024x2048 .f32) (f : BufOf (F := F) c S) : sProp 𝕄 :=
  S.view.loc (c : Thread nD τ) ↦[S.view.set]{fullShare} f
/-- The landing place once row block `b` has landed over `f`. -/
abbrev landed (M : Memref sig .tc .hbm S32768x2048 .f32) (W : BufOf (F := F) c M) (S : Memref sig .tc .vmem S1024x2048 .f32) (b : Fin 32) (f : BufOf (F := F) c S) :
    BufOf (F := F) c S :=
  S.view.writes (Elt F) f [⟨Rect.whole S1024x2048, ReadAs.same.apply ((rows M b).view.read (Elt F) W)⟩]
/-- The copy of row block `b` in flight on cell `sm`: it will deliver the landing place landed and the block back. -/
abbrev flightP (M : Memref sig .tc .hbm S32768x2048 .f32) (W : BufOf (F := F) c M) (S : Memref sig .tc .vmem S1024x2048 .f32) (sm : SemLoc sig) (b : Fin 32) (f : BufOf (F := F) c S) : sProp 𝕄 :=
  Transfers.Flight countersEmb (c : Thread nD τ) sm default (S.view.amount sm)
    iprop(placeP c S (landed c M W S b f) ∗ blockP c M W b)

/-- An operand held whole is row block `b`'s elements and the others. -/
theorem split (M : Memref sig .tc .hbm S32768x2048 .f32) (hM : M = hbX ∨ M = hbM) (W : BufOf (F := F) c M) (b : Fin 32) :
    (held c M W : sProp 𝕄) ⊣⊢ iprop(blockP c M W b ∗ otherP c M W b) := by
  unfold otherP
  rcases hM with rfl | rfl <;> exact pointsTo_split_subset (Finset.subset_univ _)
end Flight

/-- At a point that starts the next row block's copies, the source is that row block. -/
theorem off2_eq : ∀ t : Fin grid0.N, starts (grid0.coords t) → k0_off2 (grid0.coords t) = ![1024 * (nextB t.val).val, 0] := by decide +kernel
@[sl_canon] theorem source_eqX (t : Fin grid0.N) (h : starts (grid0.coords t)) :
    hbX.slice (Rect.unit (s := S32768x2048) (k0_off2 (grid0.coords t)) S1024x2048.size (k0_off2_inb (grid0.coords t) h)) (fun _ => rfl) = rows hbX (nextB t.val) :=
  congrArg (fun M : Memref sig .tc .hbm S1024x2048 .f32 => M) (Memref.slice_unit_congr _ (off2_eq t h) _ _ (fun _ => rfl) (fun _ => rfl))
@[sl_canon] theorem source_eqM (t : Fin grid0.N) (h : starts (grid0.coords t)) :
    hbM.slice (Rect.unit (s := S32768x2048) (k0_off2 (grid0.coords t)) S1024x2048.size (k0_off2_inb (grid0.coords t) h)) (fun _ => rfl) = rows hbM (nextB t.val) :=
  congrArg (fun M : Memref sig .tc .hbm S1024x2048 .f32 => M) (Memref.slice_unit_congr _ (off2_eq t h) _ _ (fun _ => rfl) (fun _ => rfl))

end Cert.MidIdeal.Mlp

end
-- ==== Proof.Mid.MlpSlab.lean ====
/- The rows a row block's first point stores: the sums of the two landed blocks and their normalised rows, slab by slab. -/
module

public import proofs.«01_k».proof.Proof.Mid.MlpBase
public import Idealize.ShloMosaic.Lib.VecWindow

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

/-- A slab of 128 rows of a row block. -/
abbrev slab (off : Fin 2 → ℕ) (inb : ∀ a, off a + S128x2048.size a ≤ S1024x2048.size a) : Rect S1024x2048 := Rect.unit (s := S1024x2048) off S128x2048.size inb
/-- What a slab's load reads of a landing place where `x` (respectively `m`) has landed. -/
abbrev slabX (x : S1024x2048.Idx → Elt F .f32) (r : Rect S1024x2048) : r.shape.Idx → Elt F .f32 := scX.view.readCov [⟨Rect.whole S1024x2048, x⟩] r.toLoadRect
abbrev slabM (m : S1024x2048.Idx → Elt F .f32) (r : Rect S1024x2048) : r.shape.Idx → Elt F .f32 := scM.view.readCov [⟨Rect.whole S1024x2048, m⟩] r.toLoadRect

/-- The stores of the sums, last first. -/
def sumL (x m : S1024x2048.Idx → Elt F .f32) : List (View.Piece (Elt F) S1024x2048 .f32) :=
  [⟨slab ![896, 0] inb_S1024x2048_S128x2048_896_0, k0_pay20 (slabX x (slab ![896, 0] inb_S1024x2048_S128x2048_896_0)) (slabM m (slab ![896, 0] inb_S1024x2048_S128x2048_896_0))⟩,
   ⟨slab ![768, 0] inb_S1024x2048_S128x2048_768_0, k0_pay18 (slabX x (slab ![768, 0] inb_S1024x2048_S128x2048_768_0)) (slabM m (slab ![768, 0] inb_S1024x2048_S128x2048_768_0))⟩,
   ⟨slab ![640, 0] inb_S1024x2048_S128x2048_640_0, k0_pay15 (slabX x (slab ![640, 0] inb_S1024x2048_S128x2048_640_0)) (slabM m (slab ![640, 0] inb_S1024x2048_S128x2048_640_0))⟩,
   ⟨slab ![512, 0] inb_S1024x2048_S128x2048_512_0, k0_pay13 (slabX x (slab ![512, 0] inb_S1024x2048_S128x2048_512_0)) (slabM m (slab ![512, 0] inb_S1024x2048_S128x2048_512_0))⟩,
   ⟨slab ![384, 0] inb_S1024x2048_S128x2048_384_0, k0_pay11 (slabX x (slab ![384, 0] inb_S1024x2048_S128x2048_384_0)) (slabM m (slab ![384, 0] inb_S1024x2048_S128x2048_384_0))⟩,
   ⟨slab ![256, 0] inb_S1024x2048_S128x2048_256_0, k0_pay7 (slabX x (slab ![256, 0] inb_S1024x2048_S128x2048_256_0)) (slabM m (slab ![256, 0] inb_S1024x2048_S128x2048_256_0))⟩,
   ⟨slab ![128, 0] inb_S1024x2048_S128x2048_128_0, k0_pay5 (slabX x (slab ![128, 0] inb_S1024x2048_S128x2048_128_0)) (slabM m (slab ![128, 0] inb_S1024x2048_S128x2048_128_0))⟩,
   ⟨slab ![0, 0] inb_S1024x2048_S128x2048_0_0, k0_pay3 (slabX x (slab ![0, 0] inb_S1024x2048_S128x2048_0_0)) (slabM m (slab ![0, 0] inb_S1024x2048_S128x2048_0_0))⟩]
/-- The stores of the normalised rows, last first. -/
def rowL (x m : S1024x2048.Idx → Elt F .f32) (g : Vec F S1x1x2048 .f32) : List (View.Piece (Elt F) S1024x2048 .bf16) :=
  [⟨slab ![896, 0] inb_S1024x2048_S128x2048_896_0, k0_pay1 (k0_pay20 (slabX x (slab ![896, 0] inb_S1024x2048_S128x2048_896_0)) (slabM m (slab ![896, 0] inb_S1024x2048_S128x2048_896_0))) (k0_pay21 g) (k0_pay22 (slabX x (slab ![896, 0] inb_S1024x2048_S128x2048_896_0)) (slabM m (slab ![896, 0] inb_S1024x2048_S128x2048_896_0)))⟩,
   ⟨slab ![768, 0] inb_S1024x2048_S128x2048_768_0, k0_pay19 (slabX x (slab ![768, 0] inb_S1024x2048_S128x2048_768_0)) (slabM m (slab ![768, 0] inb_S1024x2048_S128x2048_768_0)) g⟩,
   ⟨slab ![640, 0] inb_S1024x2048_S128x2048_640_0, k0_pay17 (k0_pay16 (slabX x (slab ![640, 0] inb_S1024x2048_S128x2048_640_0)) (slabM m (slab ![640, 0] inb_S1024x2048_S128x2048_640_0)) g)⟩,
   ⟨slab ![512, 0] inb_S1024x2048_S128x2048_512_0, k0_pay14 (k0_pay13 (slabX x (slab ![512, 0] inb_S1024x2048_S128x2048_512_0)) (slabM m (slab ![512, 0] inb_S1024x2048_S128x2048_512_0))) g⟩,
   ⟨slab ![384, 0] inb_S1024x2048_S128x2048_384_0, k0_pay12 (slabX x (slab ![384, 0] inb_S1024x2048_S128x2048_384_0)) (slabM m (slab ![384, 0] inb_S1024x2048_S128x2048_384_0)) g⟩,
   ⟨slab ![256, 0] inb_S1024x2048_S128x2048_256_0, k0_pay10 (k0_pay8 g) (k0_pay9 (slabX x (slab ![256, 0] inb_S1024x2048_S128x2048_256_0)) (slabM m (slab ![256, 0] inb_S1024x2048_S128x2048_256_0)))⟩,
   ⟨slab ![128, 0] inb_S1024x2048_S128x2048_128_0, k0_pay6 (k0_pay5 (slabX x (slab ![128, 0] inb_S1024x2048_S128x2048_128_0)) (slabM m (slab ![128, 0] inb_S1024x2048_S128x2048_128_0))) g⟩,
   ⟨slab ![0, 0] inb_S1024x2048_S128x2048_0_0, k0_pay4 (slabX x (slab ![0, 0] inb_S1024x2048_S128x2048_0_0)) (slabM m (slab ![0, 0] inb_S1024x2048_S128x2048_0_0)) g⟩]
/-- The sums and the normalised rows of a row block whose two operands' blocks are `x` and `m`. -/
def sumV (x m : S1024x2048.Idx → Elt F .f32) : Vec F S1024x2048 .f32 := View.canon (sumL x m)
def rowV (x m : S1024x2048.Idx → Elt F .f32) (g : Vec F S1x1x2048 .f32) : Vec F S1024x2048 .bf16 := View.canon (rowL x m g)

theorem sum_cover (x m : S1024x2048.Idx → Elt F .f32) : ∀ y : S1024x2048.Idx, ∃ p ∈ sumL x m, y ∈ p.1.set :=
  View.cover_of_tiledL _ S128x2048.size (by sl_kernel_rfl)
theorem row_cover (x m : S1024x2048.Idx → Elt F .f32) (g : Vec F S1x1x2048 .f32) : ∀ y : S1024x2048.Idx, ∃ p ∈ rowL x m g, y ∈ p.1.set :=
  View.cover_of_tiledL _ S128x2048.size (by sl_kernel_rfl)

/-- A load of the whole tile after the slabs' stores reads the sums (respectively the normalised rows). -/
theorem readCov_sum (v : View sig .tc .vmem S1024x2048 .f32) (x m : S1024x2048.Idx → Elt F .f32) (inb : ∀ a, (![0, 0] : Fin 2 → ℕ) a + S1024x2048.size a ≤ S1024x2048.size a) :
    v.readCov (sumL x m) (Rect.unit (s := S1024x2048) ![0, 0] S1024x2048.size inb).toLoadRect = sumV x m :=
  (View.readAt_full v _ inb).trans (View.read_writes_eq_canon _ _ _ (sum_cover x m))
theorem readCov_row (v : View sig .tc .vmem S1024x2048 .bf16) (x m : S1024x2048.Idx → Elt F .f32) (g : Vec F S1x1x2048 .f32) (inb : ∀ a, (![0, 0] : Fin 2 → ℕ) a + S1024x2048.size a ≤ S1024x2048.size a) :
    v.readCov (rowL x m g) (Rect.unit (s := S1024x2048) ![0, 0] S1024x2048.size inb).toLoadRect = rowV x m g :=
  (View.readAt_full v _ inb).trans (View.read_writes_eq_canon _ _ _ (row_cover x m g))

/-- The row block `b` of an operand, as it lands. -/
abbrev blockV (c : Dev nD) (M : Memref sig .tc .hbm S32768x2048 .f32) (W : BufOf (F := F) c M) (b : Fin 32) : S1024x2048.Idx → Elt F .f32 :=
  ReadAs.same.apply ((rows M b).view.read (Elt F) W)

/-- After the slabs' stores the scratch reads as the normalised rows. -/
theorem row_read (v : View sig .tc .vmem S1024x2048 .bf16) (f : v.ty.Contents (Elt F)) (x m : S1024x2048.Idx → Elt F .f32) (g g' : Vec F S1x1x2048 .f32) (e : g' = g) :
    v.read (Elt F) (v.writes (Elt F) f (rowL x m g')) = rowV x m g := e ▸ View.read_writes_eq_canon _ _ _ (row_cover x m _)

/-- What a row block's first point stores last, from what its loads read. -/
theorem payload_eq (v : View sig .tc .vmem S1024x2048 .bf16) (u : View sig .tc .vmem S1024x2048 .f32) (x m : S1024x2048.Idx → Elt F .f32) (g g' : Vec F S1x1x2048 .f32)
    (inb inb') (w1 w1' : Vec F S1x2048x1024 .bf16) (w2 w2' : Vec F S1x1024x2048 .bf16) (e : g' = g) (e1 : w1' = w1) (e2 : w2' = w2) :
    k0_pay2 (v.readCov (rowL x m g') (Rect.unit (s := S1024x2048) ![0, 0] S1024x2048.size inb).toLoadRect) w1' (u.readCov (sumL x m) (Rect.unit (s := S1024x2048) ![0, 0] S1024x2048.size inb').toLoadRect) w2'
      = k0_pay2 (rowV x m g) w1 (sumV x m) w2 := by
  subst e e1 e2; rw [readCov_row, readCov_sum]

end Cert.MidIdeal.Mlp

end
-- ==== Proof.Mid.MlpPay.lean ====
/- The inner feed-forward kernel's stores, read entry by entry over the extended reals: the sums and the normalised rows that a
   row block's first point keeps, and one step's products. -/
module

public import proofs.«01_k».proof.Proof.Rows
public import proofs.«01_k».proof.Proof.Mid.MlpSlab
public import Idealize.ShloMosaic.Lib.Pipeline.ValueKit.Tiles

@[expose] public section

set_option maxRecDepth 16384

noncomputable section

namespace Cert.MidIdeal.Mlp

open Cert.MidIdeal Cert.MidIdeal.Gen Idealize.ShloMosaic
open scoped BigOperators

/-- One step's store: the tile's entry plus the step's 1024 activations times their weights. -/
theorem step_apply (h : Vec Ideal S1024x2048 .bf16) (w1 : Vec Ideal S1x2048x1024 .bf16) (a : Vec Ideal S1024x2048 .f32) (w2 : Vec Ideal S1x1024x2048 .bf16)
    (r : Fin 1024) (p : Fin 2048) :
    k0_pay2 (F := Ideal) h w1 a w2 (ix2 r p)
      = a (ix2 r p) + ∑ j : Fin 1024, Rows.act (fun k => h (ix2 r k)) (fun k => w1 (ix3 0 k j)) * w2 (ix3 0 j p) := by
  pointwise [k0_pay2, Rows.act]

/-- A piece that is the whole array holds every index. -/
theorem whole_holds (x : S1024x2048.Idx → Elt Ideal .f32) (y : S1024x2048.Idx) :
    ∃ p ∈ ([⟨Rect.whole S1024x2048, x⟩] : List (View.Piece (Elt Ideal) S1024x2048 .f32)), y ∈ p.1.set := by
  refine ⟨⟨Rect.whole S1024x2048, x⟩, List.mem_singleton_self _, ?_⟩
  rw [Rect.set_whole]; exact Finset.mem_univ _

/-- A store of the whole array reads back as itself. -/
theorem canon_whole (x : S1024x2048.Idx → Elt Ideal .f32) (y : S1024x2048.Idx) :
    View.canon (Val := Elt Ideal) [⟨Rect.whole S1024x2048, x⟩] y = x y :=
  View.canon_eq_of_allAt _ y _ (whole_holds x y) fun p hp z hz => by
    obtain rfl := List.mem_singleton.mp hp
    exact congrArg x ((Rect.emb_whole_apply _ z).symm.trans hz)

/-- A slab's load reads the landed block at the slab's rows. -/
theorem slabX_apply (x : S1024x2048.Idx → Elt Ideal .f32) (off : Fin 2 → ℕ) (inb : ∀ a, off a + S128x2048.size a ≤ S1024x2048.size a)
    (r : Fin 128) (k : Fin 2048) (q : Fin 1024) (hq : q.val = off 0 + r.val) (h1 : off 1 = 0) :
    slabX x (slab off inb) (ix2 r k) = x (ix2 q k) := by
  refine (congrFun (View.readCov_eq_canon scX.view _ (slab off inb).toLoadRect fun j => whole_holds x _) (ix2 r k)).trans
    ((canon_whole x _).trans (congrArg x (funext fun a => Fin.ext ?_)))
  match a with
  | ⟨0, _⟩ => show off 0 + 1 * r.val = q.val; omega
  | ⟨1, _⟩ => show off 1 + 1 * k.val = k.val; omega
theorem slabM_apply (x : S1024x2048.Idx → Elt Ideal .f32) (off : Fin 2 → ℕ) (inb : ∀ a, off a + S128x2048.size a ≤ S1024x2048.size a)
    (r : Fin 128) (k : Fin 2048) (q : Fin 1024) (hq : q.val = off 0 + r.val) (h1 : off 1 = 0) :
    slabM x (slab off inb) (ix2 r k) = x (ix2 q k) := by
  refine (congrFun (View.readCov_eq_canon scM.view _ (slab off inb).toLoadRect fun j => whole_holds x _) (ix2 r k)).trans
    ((canon_whole x _).trans (congrArg x (funext fun a => Fin.ext ?_)))
  match a with
  | ⟨0, _⟩ => show off 0 + 1 * r.val = q.val; omega
  | ⟨1, _⟩ => show off 1 + 1 * k.val = k.val; omega

/-- The stored sums: at every entry the sum of the two landed blocks' entries. -/
theorem sumV_apply (x m : S1024x2048.Idx → Elt Ideal .f32) (q : Fin 1024) (p : Fin 2048) :
    sumV x m (ix2 q p) = (x (ix2 q p) + m (ix2 q p) : EReal) := by
  unfold sumV
  refine View.canon_eq_of_allAt _ _ _ (sum_cover x m _) ?_
  unfold sumL
  iterate 8
    refine View.allAt_cons_unit _ _ _ _ _ (fun z hz => ?_) ?_
    · obtain ⟨r, k, rfl⟩ : ∃ (r : Fin 128) (k : Fin 2048), z = ix2 r k := ⟨z 0, z 1, eq_ix2 z⟩
      have h0 := hz 0
      have h1 : p.val = 0 + k.val := hz 1
      obtain rfl : p = k := Fin.ext (by omega)
      refine (congrArg₂ (fun a b : EReal => a + b) (slabX_apply x _ _ r p q h0 rfl) (slabM_apply m _ _ r p q h0 rfl))
  exact View.allAt_nil _ _

/-- The stored rows: each row of the sums, normalised. -/
theorem rowV_apply (x m : S1024x2048.Idx → Elt Ideal .f32) (g : Vec Ideal S1x1x2048 .f32) (q : Fin 1024) (p : Fin 2048) :
    rowV x m g (ix2 q p) = Rows.nrm (fun k => (x (ix2 q k) + m (ix2 q k) : EReal)) (fun k => g (ix3 0 0 k)) p := by
  have key (a b : Vec Ideal S128x2048 .f32) (r : Fin 128) (ha : ∀ k, a (ix2 r k) = x (ix2 q k)) (hb : ∀ k, b (ix2 r k) = m (ix2 q k)) :
      k0_pay4 (F := Ideal) a b g (ix2 r p) = Rows.nrm (fun k => (x (ix2 q k) + m (ix2 q k) : EReal)) (fun k => g (ix3 0 0 k)) p := by
    simp only [← ha, ← hb]
    pointwise [k0_pay4, k0_pay3, Rows.nrm, Rows.scale]
  unfold rowV
  refine View.canon_eq_of_allAt _ _ _ (row_cover x m g _) ?_
  unfold rowL
  iterate 8
    refine View.allAt_cons_unit _ _ _ _ _ (fun z hz => ?_) ?_
    · obtain ⟨r, k, rfl⟩ : ∃ (r : Fin 128) (k : Fin 2048), z = ix2 r k := ⟨z 0, z 1, eq_ix2 z⟩
      have h0 := hz 0
      have h1 : p.val = 0 + k.val := hz 1
      obtain rfl : p = k := Fin.ext (by omega)
      exact key _ _ r (fun k => slabX_apply x _ _ r k q h0 rfl) (fun k => slabM_apply m _ _ r k q h0 rfl)
  exact View.allAt_nil _ _

end Cert.MidIdeal.Mlp

end
-- ==== Proof.Mid.MlpInv.lean ====
/-
  The inner feed-forward call's frame, at any values: what holds between two grid points.
-/
module

public import proofs.«01_k».proof.Proof.Mid.MlpSlab

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

/-- The norm's weights: the window over them never moves. -/
def gain (c : Dev nD) : Vec F S1x1x2048 .f32 := iblk m c 0 ⟨0, by decide⟩
theorem gain_eq (c : Dev nD) (t : Fin cfg0.N) : iblk m c 0 t = gain m c := rfl

/-- Point `n`'s row block of the two operands, its normalised rows, and the sums the result's tile starts from. -/
abbrev blkX (c : Dev nD) (n : ℕ) : S1024x2048.Idx → Elt F .f32 := blockV c hbX (V m c main_arg0) (curB n)
abbrev blkM (c : Dev nD) (n : ℕ) : S1024x2048.Idx → Elt F .f32 := blockV c hbM (V m c main_arg1) (curB n)
def rowsAt (c : Dev nD) (n : ℕ) : Vec F S1024x2048 .bf16 := rowV (blkX m c n) (blkM m c n) (gain m c)
def sumAt (c : Dev nD) (n : ℕ) : Vec F S1024x2048 .f32 := sumV (blkX m c n) (blkM m c n)
theorem rowsAt_congr (c : Dev nD) {n n' : ℕ} (h : n / 8 = n' / 8) : rowsAt m c n = rowsAt m c n' := by
  unfold rowsAt blkX blkM curB; simp only [h]

/-- The result's tile after the point `n`: at a row block's first point the sums and the first products; at each later one
    what the point before left and this point's products. -/
def tileAt (c : Dev nD) : (n : ℕ) → n < cfg0.N → Vec F S1024x2048 .f32
  | 0, hn => k0_pay2 (rowsAt m c 0) (iblk m c 1 ⟨0, hn⟩) (sumAt m c 0) (iblk m c 2 ⟨0, hn⟩)
  | n + 1, hn =>
    if (n + 1) % 8 = 0 then k0_pay2 (rowsAt m c (n + 1)) (iblk m c 1 ⟨n + 1, hn⟩) (sumAt m c (n + 1)) (iblk m c 2 ⟨n + 1, hn⟩)
    else k0_pay2 (rowsAt m c (n + 1)) (iblk m c 1 ⟨n + 1, hn⟩) (tileAt c n (Nat.lt_of_succ_lt hn)) (iblk m c 2 ⟨n + 1, hn⟩)

theorem pred_lt (t : Fin cfg0.N) : t.val - 1 < cfg0.N := Nat.lt_of_le_of_lt (Nat.sub_le _ _) t.isLt
theorem tileAt_open (c : Dev nD) (t : Fin cfg0.N) (h : t.val % 8 = 0) :
    tileAt m c t.val t.isLt = k0_pay2 (rowsAt m c t.val) (iblk m c 1 t) (sumAt m c t.val) (iblk m c 2 t) := by
  obtain ⟨n, hn⟩ := t
  cases n with
  | zero => rfl
  | succ n => exact if_pos h
theorem tileAt_mid (c : Dev nD) (t : Fin cfg0.N) (h : t.val % 8 ≠ 0) :
    tileAt m c t.val t.isLt = k0_pay2 (rowsAt m c t.val) (iblk m c 1 t) (tileAt m c (t.val - 1) (pred_lt t)) (iblk m c 2 t) := by
  obtain ⟨n, hn⟩ := t
  cases n with
  | zero => exact absurd (Nat.zero_mod 8) h
  | succ n => exact if_neg h
/-! ## What holds between two points -/

/-- Before point `n` a row block's copies are in flight; -/
def flying (n : ℕ) : Prop := (2 ≤ n % 8 ∧ n < 248) ∨ (n % 8 = 0 ∧ 0 < n ∧ n < 256)
instance (n : ℕ) : Decidable (flying n) := by unfold flying; infer_instance
/-- and this is the row block. -/
def fetchB (n : ℕ) : Fin 32 := ⟨(n + 6) / 8 % 32, Nat.mod_lt _ (by decide)⟩

/-- No copy in flight: the landing places at anything, the cells at zero, the operands whole. -/
def idleP (c : Dev nD) : sProp 𝕄 :=
  iprop((∃ f, placeP c scX f) ∗ (∃ f, placeP c scM f) ∗ semVal ((c : Thread nD τ), SemLoc.dma 8) 0 ∗ semVal ((c : Thread nD τ), SemLoc.dma 9) 0
    ∗ held c hbX (V m c main_arg0) ∗ held c hbM (V m c main_arg1))
/-- Row block `b`'s copies in flight, and the operands' other elements. -/
def flyP (c : Dev nD) (b : Fin 32) : sProp 𝕄 :=
  iprop((∃ f, flightP c hbX (V m c main_arg0) scX (SemLoc.dma 8) b f) ∗ otherP c hbX (V m c main_arg0) b
    ∗ (∃ f, flightP c hbM (V m c main_arg1) scM (SemLoc.dma 9) b f) ∗ otherP c hbM (V m c main_arg1) b)
/-- The copies' state before point `n`, -/
def copyP (c : Dev nD) (n : ℕ) : sProp 𝕄 := if flying n then flyP m c (fetchB n) else idleP m c
/-- and the scratch of normalised rows: its row block's, but at anything before a row block's first point. -/
def scratchP (c : Dev nD) (n : ℕ) : sProp 𝕄 :=
  if n % 8 = 0 then iprop(∃ h, owns (c : Thread nD τ) scH fullShare h) else owns (c : Thread nD τ) scH fullShare (rowsAt m c n)
def PhiR (c : Dev nD) (n : ℕ) : sProp 𝕄 := iprop((∃ r, prngReg c r) ∗ scratchP m c n ∗ copyP m c n)

/-- A point that neither starts nor waits for a copy leaves the copies as they are. -/
theorem copyP_step (c : Dev nD) (n : ℕ) (hn : n < 256) (h0 : n % 8 ≠ 0) (h1 : ¬(n % 8 = 1 ∧ n < 248)) : copyP m c (n + 1) = copyP m c n := by
  unfold copyP
  by_cases h : flying n
  · have h' : flying (n + 1) := by unfold flying at h ⊢; omega
    rw [if_pos h, if_pos h']
    have e : fetchB (n + 1) = fetchB n := Fin.ext (by show (n + 1 + 6) / 8 % 32 = (n + 6) / 8 % 32; unfold flying at h; omega)
    rw [e]
  · have h' : ¬flying (n + 1) := by unfold flying at h ⊢; omega
    rw [if_neg h, if_neg h']
theorem copyP_idle (c : Dev nD) (n : ℕ) (h : ¬flying n) : copyP m c n = idleP m c := if_neg h
theorem copyP_fly (c : Dev nD) (n : ℕ) (h : flying n) : copyP m c n = flyP m c (fetchB n) := if_pos h
theorem scratchP_any (c : Dev nD) (n : ℕ) (h : n % 8 = 0) : scratchP m c n = iprop(∃ h, owns (c : Thread nD τ) scH fullShare h) := if_pos h
theorem scratchP_rows (c : Dev nD) (n : ℕ) (h : n % 8 ≠ 0) : scratchP m c n = owns (c : Thread nD τ) scH fullShare (rowsAt m c n) := if_neg h

/-- The rows kept at a point are what the next point's scratch holds, or more than it asks. -/
theorem scratchP_next (c : Dev nD) (n : ℕ) : (owns (c : Thread nD τ) scH fullShare (rowsAt m c n) : sProp 𝕄) ⊢ scratchP m c (n + 1) := by
  by_cases h : (n + 1) % 8 = 0
  · rw [scratchP_any m c _ h]; iintro H; iexists _; iexact H
  · rw [scratchP_rows m c _ h, rowsAt_congr m c (show (n + 1) / 8 = n / 8 by omega)]

/-- What holds around the body at a point: the invariant, what the core owes, the five windows' buffers. -/
def around (c : Dev nD) (t : Fin cfg0.N) (n : ℕ) (R : sProp 𝕄) : sProp 𝕄 :=
  iprop(((∃ r, prngReg c r) ∗ scratchP m c n ∗ copyP m c n) ∗ (∃ W, ⌜True⌝ ∗ owes (c : Thread nD τ) 0 W)
    ∗ owns (c : Thread nD τ) (ms0 t) fullShare (gain m c) ∗ owns (c : Thread nD τ) (ms1 t) fullShare (iblk m c 1 t)
    ∗ owns (c : Thread nD τ) (ms2 t) fullShare (iblk m c 2 t) ∗ owns (c : Thread nD τ) (ms3 t) fullShare (iblk m c 3 t) ∗ R)

end Cert.MidIdeal.Mlp

end
-- ==== Proof.Mid.MlpRunA.lean ====
/-
  The inner feed-forward call's body at the very first point, at any values.
-/
module

public import proofs.«01_k».proof.Proof.Mid.MlpSlab
public import Idealize.ShloMosaic.Lib.VecWindow

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

set_option maxHeartbeats 2000000 in
/-- At the very first point the copies of the first row block are started and waited for; then as at the first point of any other row block. -/
theorem run_first (c : Dev nD) (t : Fin cfg0.N) (arg4 : Memref sig .tc .vmem S1x1x2048 .f32) (harg4 : arg4.IsWhole) (arg5 : Memref sig .tc .vmem S1x2048x1024 .bf16) (harg5 : arg5.IsWhole)
    (arg6 : Memref sig .tc .vmem S1x1024x2048 .bf16) (harg6 : arg6.IsWhole) (arg7 : Memref sig .tc .vmem S1x2048 .f32) (harg7 : arg7.IsWhole) (arg8 : Memref sig .tc .vmem S1024x2048 .f32) (harg8 : arg8.IsWhole)
    (hc0 : first (grid0.coords t)) (hc1 : opens (grid0.coords t)) (hc2 : ¬starts (grid0.coords t))
    (g : Vec F S1x1x2048 .f32) (w1 : Vec F S1x2048x1024 .bf16) (w2 : Vec F S1x1024x2048 .bf16)
    (WX : BufOf (F := F) c hbX) (WM : BufOf (F := F) c hbM) (fX : BufOf (F := F) c scX) (fM : BufOf (F := F) c scM) (W : Waits sig Unit) (K : PUnit → sProp 𝕄) :
    iprop(placeP c scX fX ∗ placeP c scM fM ∗ semVal ((c : Thread nD τ), SemLoc.dma 8) 0 ∗ semVal ((c : Thread nD τ), SemLoc.dma 9) 0 ∗ blockP c hbX WX 0 ∗ otherP c hbX WX 0 ∗ blockP c hbM WM 0 ∗ otherP c hbM WM 0
        ∗ owns (c : Thread nD τ) arg4 fullShare g ∗ owns (c : Thread nD τ) arg5 fullShare w1 ∗ owns (c : Thread nD τ) arg6 fullShare w2
        ∗ (∃ h, owns (c : Thread nD τ) scH fullShare h) ∗ (∃ o, owns (c : Thread nD τ) arg8 fullShare o) ∗ owes (c : Thread nD τ) 0 W
        ∗ (iprop((∃ f, placeP c scX f) ∗ (∃ f, placeP c scM f) ∗ semVal ((c : Thread nD τ), SemLoc.dma 8) 0 ∗ semVal ((c : Thread nD τ), SemLoc.dma 9) 0 ∗ held c hbX WX ∗ held c hbM WM
            ∗ owns (c : Thread nD τ) arg4 fullShare g ∗ owns (c : Thread nD τ) arg5 fullShare w1 ∗ owns (c : Thread nD τ) arg6 fullShare w2
            ∗ owns (c : Thread nD τ) scH fullShare (rowV (blockV c hbX WX 0) (blockV c hbM WM 0) g)
            ∗ owns (c : Thread nD τ) arg8 fullShare (k0_pay2 (rowV (blockV c hbX WX 0) (blockV c hbM WM 0) g) w1 (sumV (blockV c hbX WX 0) (blockV c hbM WM 0)) w2)
            ∗ (∃ W', owes (c : Thread nD τ) 0 W')) -∗ K ⟨⟩))
      ⊢ wp frame (wpE (defs₀ (F := F)) Variants.none c none) Set.univ
          (cc0_mlp (grid0.coords t) hbX (Memref.isWhole_whole _) hbM (Memref.isWhole_whole _) arg4 harg4 arg5 harg5 arg6 harg6 arg7 harg7 arg8 harg8 scH (Memref.isWhole_whole _) scX (Memref.isWhole_whole _) scM (Memref.isWhole_whole _) cc0_scratch3) K := by
  simp only [cc0_mlp_eq_skeleton]; unfold cc0_mlp_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨HdX, HdM, Hs8, Hs9, HbX, HrX, HbM, HrM, ⟨%f0, %hf0, H0⟩, ⟨%f1, %hf1, H1⟩, ⟨%f2, %hf2, H2⟩, ⟨%dh, %fh, -, Hh⟩, ⟨%do0, %fo, -, Ho⟩, HW, Hk⟩
  subst hf0
  sl_exec (disch := first | sl_exact hc0 | sl_exact hc1 | sl_exact hc2)
  sl_step
  iapply Hk
  isplitl [HdX]; · iexists _; iexact HdX
  isplitl [HdM]; · iexists _; iexact HdM
  isplitl [Hs8]; · iexact Hs8
  isplitl [Hs9]; · iexact Hs9
  isplitl [HbX HrX]
  · iapply (split c hbX (Or.inl rfl) WX 0).2
    isplitl [HbX]; · iexact HbX
    iexact HrX
  isplitl [HbM HrM]
  · iapply (split c hbM (Or.inr rfl) WM 0).2
    isplitl [HbM]; · iexact HbM
    iexact HrM
  isplitl [H0]; · iexists f0; isplitr; · ipureintro; exact rfl
                  iexact H0
  isplitl [H1]; · iexists f1; isplitr; · ipureintro; exact hf1
                  iexact H1
  isplitl [H2]; · iexists f2; isplitr; · ipureintro; exact hf2
                  iexact H2
  isplitl [Hh]; · iexists _; isplitr
                  swap; · iexact Hh
                  ipureintro; sl_unfold_words; exact row_read scH.view _ _ _ _ _ (View.readAt_full (s := S1x1x2048) _ _ _)
  isplitl [Ho]; · iexists _; isplitr
                  swap; · iexact Ho
                  · ipureintro
                    sl_unfold_words
                    refine (View.read_writes_full (s := S1024x2048) _ _ _ _ _).trans ?_
                    exact payload_eq scH.view arg8.view _ _ _ _ _ _ _ _ _ _ (View.readAt_full (s := S1x1x2048) _ _ _) ((View.readAt_full (s := S1x2048x1024) _ _ _).trans hf1) ((View.readAt_full (s := S1x1024x2048) _ _ _).trans hf2)
  iexists _; iexact HW

end Cert.MidIdeal.Mlp

end
-- ==== Proof.Mid.MlpBodyA.lean ====
/- The inner feed-forward call's body between two points' invariants, at the very first point. -/
module

public import proofs.«01_k».proof.Proof.Mid.MlpInv
public import proofs.«01_k».proof.Proof.Mid.MlpRunA

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

set_option maxHeartbeats 1000000 in
/-- The body at the very first point. -/
theorem body_first (c : Dev nD) (t : Fin cfg0.N) (h0 : t.val % 8 = 0) (hz : t.val = 0) :
    around m c t t.val iprop(∃ o, owns (c : Thread nD τ) (ms4 t) fullShare o) ⊢ wp frame (wpE (defs₀ (F := F)) Variants.none c none) Set.univ (bodyAt0 t) (fun _ => around m c t (t.val + 1) (owns (c : Thread nD τ) (ms4 t) fullShare (tileAt m c t.val t.isLt))) := by
  have hN : t.val < 256 := lt_of_lt_of_eq t.isLt (show cfg0.N = 256 from N_0)
  have hc1 : opens (grid0.coords t) := (opens_iff t).mpr h0
  have hc2 : ¬starts (grid0.coords t) := fun h => by have := (starts_iff t).mp h; omega
  have hfl : ¬flying (t.val + 1) := by unfold flying; omega
  unfold around
  rw [tileAt_open m c t h0, scratchP_any m c _ h0, scratchP_rows m c (t.val + 1) (by omega), rowsAt_congr m c (show (t.val + 1) / 8 = t.val / 8 by omega), copyP_idle m c _ hfl]
  have hc0 : first (grid0.coords t) := (first_iff t).mpr hz
  have hb : curB t.val = 0 := by rw [hz]; rfl
  rw [copyP_idle m c _ (by unfold flying; omega)]
  unfold idleP rowsAt sumAt blkX blkM
  rw [hb]
  iintro ⟨⟨Hg, Hh, ⟨%fX, HX⟩, ⟨%fM, HM⟩, Hs8, Hs9, HWX, HWM⟩, ⟨%W, -, HW⟩, H0, H1, H2, H3, H4⟩
  ihave HsX := (split c hbX (Or.inl rfl) (V m c main_arg0) 0).1 $$ HWX
  icases HsX with ⟨HbX, HrX⟩
  ihave HsM := (split c hbM (Or.inr rfl) (V m c main_arg1) 0).1 $$ HWM
  icases HsM with ⟨HbM, HrM⟩
  iapply (run_first c t (ms0 t) (hs0 t) (ms1 t) (hs1 t) (ms2 t) (hs2 t) (ms3 t) (hs3 t) (ms4 t) (hs4 t) hc0 hc1 hc2 (gain m c) (iblk m c 1 t) (iblk m c 2 t) (V m c main_arg0) (V m c main_arg1) fX fM W _)
  isplitl [HX]; · iexact HX
  isplitl [HM]; · iexact HM
  isplitl [Hs8]; · iexact Hs8
  isplitl [Hs9]; · iexact Hs9
  isplitl [HbX]; · iexact HbX
  isplitl [HrX]; · iexact HrX
  isplitl [HbM]; · iexact HbM
  isplitl [HrM]; · iexact HrM
  isplitl [H0]; · iexact H0
  isplitl [H1]; · iexact H1
  isplitl [H2]; · iexact H2
  isplitl [Hh]; · iexact Hh
  isplitl [H4]; · iexact H4
  isplitl [HW]; · iexact HW
  iintro ⟨HX, HM, Hs8, Hs9, HWX, HWM, H0, H1, H2, Hh, H4, ⟨%W', HW⟩⟩
  isplitl [Hg Hh HX HM Hs8 Hs9 HWX HWM]
  · isplitl [Hg]; · iexact Hg
    isplitl [Hh]; · iexact Hh
    isplitl [HX]; · iexact HX
    isplitl [HM]; · iexact HM
    isplitl [Hs8]; · iexact Hs8
    isplitl [Hs9]; · iexact Hs9
    isplitl [HWX]; · iexact HWX
    iexact HWM
  isplitl [HW]
  · iexists W'; isplitr; · ipureintro; trivial
    iexact HW
  isplitl [H0]; · iexact H0
  isplitl [H1]; · iexact H1
  isplitl [H2]; · iexact H2
  isplitl [H3]; · iexact H3
  iexact H4

end Cert.MidIdeal.Mlp

end
-- ==== Proof.Mid.MlpRunB.lean ====
/-
  The inner feed-forward call's body at the first point of a row block after the first, at any values.
-/
module

public import proofs.«01_k».proof.Proof.Mid.MlpSlab
public import Idealize.ShloMosaic.Lib.VecWindow

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

set_option maxHeartbeats 2000000 in
/-- At the first point of a row block after the first, the copies in flight land; the block's sums and normalised rows are stored, and the point accumulates on them. -/
theorem run_open (c : Dev nD) (t : Fin cfg0.N) (arg4 : Memref sig .tc .vmem S1x1x2048 .f32) (harg4 : arg4.IsWhole) (arg5 : Memref sig .tc .vmem S1x2048x1024 .bf16) (harg5 : arg5.IsWhole)
    (arg6 : Memref sig .tc .vmem S1x1024x2048 .bf16) (harg6 : arg6.IsWhole) (arg7 : Memref sig .tc .vmem S1x2048 .f32) (harg7 : arg7.IsWhole) (arg8 : Memref sig .tc .vmem S1024x2048 .f32) (harg8 : arg8.IsWhole)
    (hc0 : ¬first (grid0.coords t)) (hc1 : opens (grid0.coords t)) (hc2 : ¬starts (grid0.coords t))
    (g : Vec F S1x1x2048 .f32) (w1 : Vec F S1x2048x1024 .bf16) (w2 : Vec F S1x1024x2048 .bf16)
    (WX : BufOf (F := F) c hbX) (WM : BufOf (F := F) c hbM) (b : Fin 32) (fX : BufOf (F := F) c scX) (fM : BufOf (F := F) c scM) (W : Waits sig Unit) (K : PUnit → sProp 𝕄) :
    iprop(flightP c hbX WX scX (SemLoc.dma 8) b fX ∗ otherP c hbX WX b ∗ flightP c hbM WM scM (SemLoc.dma 9) b fM ∗ otherP c hbM WM b
        ∗ owns (c : Thread nD τ) arg4 fullShare g ∗ owns (c : Thread nD τ) arg5 fullShare w1 ∗ owns (c : Thread nD τ) arg6 fullShare w2
        ∗ (∃ h, owns (c : Thread nD τ) scH fullShare h) ∗ (∃ o, owns (c : Thread nD τ) arg8 fullShare o) ∗ owes (c : Thread nD τ) 0 W
        ∗ (iprop((∃ f, placeP c scX f) ∗ (∃ f, placeP c scM f) ∗ semVal ((c : Thread nD τ), SemLoc.dma 8) 0 ∗ semVal ((c : Thread nD τ), SemLoc.dma 9) 0 ∗ held c hbX WX ∗ held c hbM WM
            ∗ owns (c : Thread nD τ) arg4 fullShare g ∗ owns (c : Thread nD τ) arg5 fullShare w1 ∗ owns (c : Thread nD τ) arg6 fullShare w2
            ∗ owns (c : Thread nD τ) scH fullShare (rowV (blockV c hbX WX b) (blockV c hbM WM b) g)
            ∗ owns (c : Thread nD τ) arg8 fullShare (k0_pay2 (rowV (blockV c hbX WX b) (blockV c hbM WM b) g) w1 (sumV (blockV c hbX WX b) (blockV c hbM WM b)) w2)
            ∗ (∃ W', owes (c : Thread nD τ) 0 W')) -∗ K ⟨⟩))
      ⊢ wp frame (wpE (defs₀ (F := F)) Variants.none c none) Set.univ
          (cc0_mlp (grid0.coords t) hbX (Memref.isWhole_whole _) hbM (Memref.isWhole_whole _) arg4 harg4 arg5 harg5 arg6 harg6 arg7 harg7 arg8 harg8 scH (Memref.isWhole_whole _) scX (Memref.isWhole_whole _) scM (Memref.isWhole_whole _) cc0_scratch3) K := by
  simp only [cc0_mlp_eq_skeleton]; unfold cc0_mlp_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨HfX, HrX, HfM, HrM, ⟨%f0, %hf0, H0⟩, ⟨%f1, %hf1, H1⟩, ⟨%f2, %hf2, H2⟩, ⟨%dh, %fh, -, Hh⟩, ⟨%do0, %fo, -, Ho⟩, HW, Hk⟩
  subst hf0
  sl_exec (disch := first | sl_exact hc0 | sl_exact hc1 | sl_exact hc2)
  sl_step
  iapply Hk
  isplitl [HfX_dst]; · iexists _; iexact HfX_dst
  isplitl [HfM_dst]; · iexists _; iexact HfM_dst
  isplitl [HfX]; · iexact HfX
  isplitl [HfM]; · iexact HfM
  isplitl [HfX_src HrX]
  · iapply (split c hbX (Or.inl rfl) WX b).2
    isplitl [HfX_src]; · iexact HfX_src
    iexact HrX
  isplitl [HfM_src HrM]
  · iapply (split c hbM (Or.inr rfl) WM b).2
    isplitl [HfM_src]; · iexact HfM_src
    iexact HrM
  isplitl [H0]; · iexists f0; isplitr; · ipureintro; exact rfl
                  iexact H0
  isplitl [H1]; · iexists f1; isplitr; · ipureintro; exact hf1
                  iexact H1
  isplitl [H2]; · iexists f2; isplitr; · ipureintro; exact hf2
                  iexact H2
  isplitl [Hh]; · iexists _; isplitr
                  swap; · iexact Hh
                  ipureintro; sl_unfold_words; exact row_read scH.view _ _ _ _ _ (View.readAt_full (s := S1x1x2048) _ _ _)
  isplitl [Ho]; · iexists _; isplitr
                  swap; · iexact Ho
                  · ipureintro
                    sl_unfold_words
                    refine (View.read_writes_full (s := S1024x2048) _ _ _ _ _).trans ?_
                    exact payload_eq scH.view arg8.view _ _ _ _ _ _ _ _ _ _ (View.readAt_full (s := S1x1x2048) _ _ _) ((View.readAt_full (s := S1x2048x1024) _ _ _).trans hf1) ((View.readAt_full (s := S1x1024x2048) _ _ _).trans hf2)
  iexists _; iexact HW

end Cert.MidIdeal.Mlp

end
-- ==== Proof.Mid.MlpBodyB.lean ====
/- The inner feed-forward call's body between two points' invariants, at the first point of a row block after the first. -/
module

public import proofs.«01_k».proof.Proof.Mid.MlpInv
public import proofs.«01_k».proof.Proof.Mid.MlpRunB

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

set_option maxHeartbeats 1000000 in
/-- The body at the first point of a row block after the first. -/
theorem body_open (c : Dev nD) (t : Fin cfg0.N) (h0 : t.val % 8 = 0) (hz : t.val ≠ 0) :
    around m c t t.val iprop(∃ o, owns (c : Thread nD τ) (ms4 t) fullShare o) ⊢ wp frame (wpE (defs₀ (F := F)) Variants.none c none) Set.univ (bodyAt0 t) (fun _ => around m c t (t.val + 1) (owns (c : Thread nD τ) (ms4 t) fullShare (tileAt m c t.val t.isLt))) := by
  have hN : t.val < 256 := lt_of_lt_of_eq t.isLt (show cfg0.N = 256 from N_0)
  have hc1 : opens (grid0.coords t) := (opens_iff t).mpr h0
  have hc2 : ¬starts (grid0.coords t) := fun h => by have := (starts_iff t).mp h; omega
  have hfl : ¬flying (t.val + 1) := by unfold flying; omega
  unfold around
  rw [tileAt_open m c t h0, scratchP_any m c _ h0, scratchP_rows m c (t.val + 1) (by omega), rowsAt_congr m c (show (t.val + 1) / 8 = t.val / 8 by omega), copyP_idle m c _ hfl]
  have hc0 : ¬first (grid0.coords t) := fun h => hz ((first_iff t).mp h)
  have hb : fetchB t.val = curB t.val := Fin.ext (by show (t.val + 6) / 8 % 32 = t.val / 8 % 32; omega)
  rw [copyP_fly m c _ (by unfold flying; omega), hb]
  unfold idleP flyP rowsAt sumAt blkX blkM
  iintro ⟨⟨Hg, Hh, ⟨%fX, HX⟩, HrX, ⟨%fM, HM⟩, HrM⟩, ⟨%W, -, HW⟩, H0, H1, H2, H3, H4⟩
  iapply (run_open c t (ms0 t) (hs0 t) (ms1 t) (hs1 t) (ms2 t) (hs2 t) (ms3 t) (hs3 t) (ms4 t) (hs4 t) hc0 hc1 hc2 (gain m c) (iblk m c 1 t) (iblk m c 2 t) (V m c main_arg0) (V m c main_arg1) (curB t.val) fX fM W _)
  isplitl [HX]; · iexact HX
  isplitl [HrX]; · iexact HrX
  isplitl [HM]; · iexact HM
  isplitl [HrM]; · iexact HrM
  isplitl [H0]; · iexact H0
  isplitl [H1]; · iexact H1
  isplitl [H2]; · iexact H2
  isplitl [Hh]; · iexact Hh
  isplitl [H4]; · iexact H4
  isplitl [HW]; · iexact HW
  iintro ⟨HX, HM, Hs8, Hs9, HWX, HWM, H0, H1, H2, Hh, H4, ⟨%W', HW⟩⟩
  isplitl [Hg Hh HX HM Hs8 Hs9 HWX HWM]
  · isplitl [Hg]; · iexact Hg
    isplitl [Hh]; · iexact Hh
    isplitl [HX]; · iexact HX
    isplitl [HM]; · iexact HM
    isplitl [Hs8]; · iexact Hs8
    isplitl [Hs9]; · iexact Hs9
    isplitl [HWX]; · iexact HWX
    iexact HWM
  isplitl [HW]
  · iexists W'; isplitr; · ipureintro; trivial
    iexact HW
  isplitl [H0]; · iexact H0
  isplitl [H1]; · iexact H1
  isplitl [H2]; · iexact H2
  isplitl [H3]; · iexact H3
  iexact H4

end Cert.MidIdeal.Mlp

end
-- ==== Proof.Mid.MlpRunC.lean ====
/-
  The inner feed-forward call's body at a point that starts the next row block's copies, at any values.
-/
module

public import proofs.«01_k».proof.Proof.Mid.MlpBase
public import Idealize.ShloMosaic.Lib.VecWindow

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

set_option maxHeartbeats 1000000 in
/-- At a point that starts the next row block's copies: both copies are in flight after it, their operands' other elements
    kept, and the result's tile gains the products as at any point. -/
theorem run_start (c : Dev nD) (t : Fin cfg0.N) (arg4 : Memref sig .tc .vmem S1x1x2048 .f32) (harg4 : arg4.IsWhole) (arg5 : Memref sig .tc .vmem S1x2048x1024 .bf16) (harg5 : arg5.IsWhole)
    (arg6 : Memref sig .tc .vmem S1x1024x2048 .bf16) (harg6 : arg6.IsWhole) (arg7 : Memref sig .tc .vmem S1x2048 .f32) (harg7 : arg7.IsWhole) (arg8 : Memref sig .tc .vmem S1024x2048 .f32) (harg8 : arg8.IsWhole)
    (hc0 : ¬first (grid0.coords t)) (hc1 : ¬opens (grid0.coords t)) (hc2 : starts (grid0.coords t))
    (w1 : Vec F S1x2048x1024 .bf16) (w2 : Vec F S1x1024x2048 .bf16) (h : Vec F S1024x2048 .bf16) (o : Vec F S1024x2048 .f32) (WX : BufOf (F := F) c hbX) (WM : BufOf (F := F) c hbM) (fX : BufOf (F := F) c scX) (fM : BufOf (F := F) c scM) (K : PUnit → sProp 𝕄) :
    iprop(placeP c scX fX ∗ placeP c scM fM ∗ semVal ((c : Thread nD τ), SemLoc.dma 8) 0 ∗ semVal ((c : Thread nD τ), SemLoc.dma 9) 0 ∗ held c hbX WX ∗ held c hbM WM
        ∗ owns (c : Thread nD τ) arg5 fullShare w1 ∗ owns (c : Thread nD τ) arg6 fullShare w2 ∗ owns (c : Thread nD τ) scH fullShare h ∗ owns (c : Thread nD τ) arg8 fullShare o
        ∗ (iprop(flightP c hbX WX scX (SemLoc.dma 8) (nextB t.val) fX ∗ otherP c hbX WX (nextB t.val) ∗ flightP c hbM WM scM (SemLoc.dma 9) (nextB t.val) fM ∗ otherP c hbM WM (nextB t.val)
            ∗ owns (c : Thread nD τ) arg5 fullShare w1 ∗ owns (c : Thread nD τ) arg6 fullShare w2 ∗ owns (c : Thread nD τ) scH fullShare h
            ∗ owns (c : Thread nD τ) arg8 fullShare (k0_pay2 h w1 o w2)) -∗ K ⟨⟩))
      ⊢ wp frame (wpE (defs₀ (F := F)) Variants.none c none) Set.univ
          (cc0_mlp (grid0.coords t) hbX (Memref.isWhole_whole _) hbM (Memref.isWhole_whole _) arg4 harg4 arg5 harg5 arg6 harg6 arg7 harg7 arg8 harg8 scH (Memref.isWhole_whole _) scX (Memref.isWhole_whole _) scM (Memref.isWhole_whole _) cc0_scratch3) K := by
  simp only [cc0_mlp_eq_skeleton]; unfold cc0_mlp_skel
  unfold owns
  iintro ⟨HX, HM, Hq0, Hq1, HWX, HWM, ⟨%f1, %hf1, H1⟩, ⟨%f2, %hf2, H2⟩, ⟨%fh, %hfh, Hh⟩, ⟨%fo, %hfo, Ho⟩, Hk⟩
  ihave HsX := (split c hbX (Or.inl rfl) WX (nextB t.val)).1 $$ HWX
  icases HsX with ⟨HbX, HrX⟩
  ihave HsM := (split c hbM (Or.inr rfl) WM (nextB t.val)).1 $$ HWM
  icases HsM with ⟨HbM, HrM⟩
  sl_exec (disch := first | sl_exact hc0 | sl_exact hc1 | sl_exact hc2)
  sl_step
  iapply Hk
  isplitl [Hq0]; · iexact Hq0
  isplitl [HrX]; · iexact HrX
  isplitl [Hq1]; · iexact Hq1
  isplitl [HrM]; · iexact HrM
  isplitl [H1]; · iexists _; isplitr; swap; · iexact H1
                  ipureintro; exact hf1
  isplitl [H2]; · iexists _; isplitr; swap; · iexact H2
                  ipureintro; exact hf2
  isplitl [Hh]; · iexists _; isplitr; swap; · iexact Hh
                  ipureintro; exact hfh
  iexists _; isplitr; swap; · iexact Ho
  ipureintro
  rw [View.read_writes_full, View.readAt_full, View.readAt_full, View.readAt_full, View.readAt_full, hf1, hf2, hfh, hfo]

end Cert.MidIdeal.Mlp

end
-- ==== Proof.Mid.MlpBodyC.lean ====
/- The inner feed-forward call's body between two points' invariants, at a point that starts copies. -/
module

public import proofs.«01_k».proof.Proof.Mid.MlpInv
public import proofs.«01_k».proof.Proof.Mid.MlpRunC

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

set_option maxHeartbeats 1000000 in
/-- The body at a point that starts the next row block's copies. -/
theorem body_start (c : Dev nD) (t : Fin cfg0.N) (h0 : t.val % 8 ≠ 0) (h1 : t.val % 8 = 1 ∧ t.val < 248) :
    around m c t t.val (owns (c : Thread nD τ) (ms4 t) fullShare (tileAt m c (t.val - 1) (pred_lt t))) ⊢ wp frame (wpE (defs₀ (F := F)) Variants.none c none) Set.univ (bodyAt0 t) (fun _ => around m c t (t.val + 1) (owns (c : Thread nD τ) (ms4 t) fullShare (tileAt m c t.val t.isLt))) := by
  have hN : t.val < 256 := lt_of_lt_of_eq t.isLt (show cfg0.N = 256 from N_0)
  have hc0 : ¬first (grid0.coords t) := fun h => h0 (by rw [(first_iff t).mp h])
  have hc1 : ¬opens (grid0.coords t) := fun h => h0 ((opens_iff t).mp h)
  unfold around
  rw [scratchP_rows m c _ h0]
  have hc2 : starts (grid0.coords t) := (starts_iff t).mpr h1
  have hb : fetchB (t.val + 1) = nextB t.val := Fin.ext (by show (t.val + 1 + 6) / 8 % 32 = (t.val / 8 + 1) % 32; omega)
  rw [tileAt_mid m c t h0, scratchP_rows m c (t.val + 1) (by omega), rowsAt_congr m c (show (t.val + 1) / 8 = t.val / 8 by omega),
    copyP_idle m c t.val (by unfold flying; omega), copyP_fly m c (t.val + 1) (by unfold flying; omega), hb]
  unfold idleP flyP
  iintro ⟨⟨Hg, Hh, ⟨%fX, HX⟩, ⟨%fM, HM⟩, Hs8, Hs9, HWX, HWM⟩, ⟨%W, -, HW⟩, H0, H1, H2, H3, H4⟩
  iapply (run_start c t (ms0 t) (hs0 t) (ms1 t) (hs1 t) (ms2 t) (hs2 t) (ms3 t) (hs3 t) (ms4 t) (hs4 t) hc0 hc1 hc2 (iblk m c 1 t) (iblk m c 2 t) (rowsAt m c t.val) (tileAt m c (t.val - 1) (pred_lt t)) (V m c main_arg0) (V m c main_arg1) fX fM _)
  isplitl [HX]; · iexact HX
  isplitl [HM]; · iexact HM
  isplitl [Hs8]; · iexact Hs8
  isplitl [Hs9]; · iexact Hs9
  isplitl [HWX]; · iexact HWX
  isplitl [HWM]; · iexact HWM
  isplitl [H1]; · iexact H1
  isplitl [H2]; · iexact H2
  isplitl [Hh]; · iexact Hh
  isplitl [H4]; · iexact H4
  iintro ⟨HX, HrX, HM, HrM, H1, H2, Hh, H4⟩
  isplitl [Hg Hh HX HrX HM HrM]
  · isplitl [Hg]; · iexact Hg
    isplitl [Hh]; · iexact Hh
    isplitl [HX]; · iexists _; iexact HX
    isplitl [HrX]; · iexact HrX
    isplitl [HM]; · iexists _; iexact HM
    iexact HrM
  isplitl [HW]
  · iexists W; isplitr; · ipureintro; trivial
    iexact HW
  isplitl [H0]; · iexact H0
  isplitl [H1]; · iexact H1
  isplitl [H2]; · iexact H2
  isplitl [H3]; · iexact H3
  iexact H4

end Cert.MidIdeal.Mlp

end
-- ==== Proof.Mid.MlpRunD.lean ====
/-
  The inner feed-forward call's body at a point that only accumulates, at any values.
-/
module

public import proofs.«01_k».proof.Proof.Mid.MlpBase
public import Idealize.ShloMosaic.Lib.VecWindow

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

/-- The offsets of a load or store of a whole buffer of two axes, and of three, are zero. -/
theorem zero2 : (![0, 0] : Fin 2 → Nat) = fun _ => 0 := by decide
theorem zero3 : (![0, 0, 0] : Fin 3 → Nat) = fun _ => 0 := by decide

set_option maxHeartbeats 1000000 in
/-- At a point that neither opens nor closes a row block nor starts copies: the result's tile gains the products of the
    normalised rows' slice, and all else is as it was. -/
theorem run_middle (c : Dev nD) (i : grid0.Coords) (arg4 : Memref sig .tc .vmem S1x1x2048 .f32) (harg4 : arg4.IsWhole) (arg5 : Memref sig .tc .vmem S1x2048x1024 .bf16) (harg5 : arg5.IsWhole)
    (arg6 : Memref sig .tc .vmem S1x1024x2048 .bf16) (harg6 : arg6.IsWhole) (arg7 : Memref sig .tc .vmem S1x2048 .f32) (harg7 : arg7.IsWhole) (arg8 : Memref sig .tc .vmem S1024x2048 .f32) (harg8 : arg8.IsWhole)
    (hc0 : ¬first i) (hc1 : ¬opens i) (hc2 : ¬starts i)
    (w1 : Vec F S1x2048x1024 .bf16) (w2 : Vec F S1x1024x2048 .bf16) (h : Vec F S1024x2048 .bf16) (o : Vec F S1024x2048 .f32) (K : PUnit → sProp 𝕄) :
    iprop(owns (c : Thread nD τ) arg5 fullShare w1 ∗ owns (c : Thread nD τ) arg6 fullShare w2 ∗ owns (c : Thread nD τ) scH fullShare h ∗ owns (c : Thread nD τ) arg8 fullShare o
        ∗ (iprop(owns (c : Thread nD τ) arg5 fullShare w1 ∗ owns (c : Thread nD τ) arg6 fullShare w2 ∗ owns (c : Thread nD τ) scH fullShare h
            ∗ owns (c : Thread nD τ) arg8 fullShare (k0_pay2 h w1 o w2)) -∗ K ⟨⟩))
      ⊢ wp frame (wpE (defs₀ (F := F)) Variants.none c none) Set.univ
          (cc0_mlp i hbX (Memref.isWhole_whole _) hbM (Memref.isWhole_whole _) arg4 harg4 arg5 harg5 arg6 harg6 arg7 harg7 arg8 harg8 scH (Memref.isWhole_whole _) scX (Memref.isWhole_whole _) scM (Memref.isWhole_whole _) cc0_scratch3) K := by
  simp only [cc0_mlp_eq_skeleton]; unfold cc0_mlp_skel
  unfold owns
  iintro ⟨⟨%f1, %hf1, H1⟩, ⟨%f2, %hf2, H2⟩, ⟨%fh, %hfh, Hh⟩, ⟨%fo, %hfo, Ho⟩, Hk⟩
  sl_exec (disch := first | sl_exact hc0 | sl_exact hc1 | sl_exact hc2)
  sl_step
  iapply Hk
  isplitl [H1]; · iexists _; isplitr; swap; · iexact H1
                  ipureintro; exact hf1
  isplitl [H2]; · iexists _; isplitr; swap; · iexact H2
                  ipureintro; exact hf2
  isplitl [Hh]; · iexists _; isplitr; swap; · iexact Hh
                  ipureintro; exact hfh
  iexists _; isplitr; swap; · iexact Ho
  ipureintro
  rw [View.read_writes_full, View.readAt_full, View.readAt_full, View.readAt_full, View.readAt_full, hf1, hf2, hfh, hfo]

end Cert.MidIdeal.Mlp

end
-- ==== Proof.Mid.MlpBodyD.lean ====
/- The inner feed-forward call's body between two points' invariants, at a point that only accumulates. -/
module

public import proofs.«01_k».proof.Proof.Mid.MlpInv
public import proofs.«01_k».proof.Proof.Mid.MlpRunD

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

set_option maxHeartbeats 1000000 in
/-- The body at a point that only accumulates. -/
theorem body_middle (c : Dev nD) (t : Fin cfg0.N) (h0 : t.val % 8 ≠ 0) (h1 : ¬(t.val % 8 = 1 ∧ t.val < 248)) :
    around m c t t.val (owns (c : Thread nD τ) (ms4 t) fullShare (tileAt m c (t.val - 1) (pred_lt t))) ⊢ wp frame (wpE (defs₀ (F := F)) Variants.none c none) Set.univ (bodyAt0 t) (fun _ => around m c t (t.val + 1) (owns (c : Thread nD τ) (ms4 t) fullShare (tileAt m c t.val t.isLt))) := by
  have hN : t.val < 256 := lt_of_lt_of_eq t.isLt (show cfg0.N = 256 from N_0)
  have hc0 : ¬first (grid0.coords t) := fun h => h0 (by rw [(first_iff t).mp h])
  have hc1 : ¬opens (grid0.coords t) := fun h => h0 ((opens_iff t).mp h)
  unfold around
  rw [scratchP_rows m c _ h0]
  have hc2 : ¬starts (grid0.coords t) := fun h => h1 ((starts_iff t).mp h)
  rw [copyP_step m c t.val hN h0 h1]
  rw [tileAt_mid m c t h0]
  iintro ⟨⟨Hg, Hh, Hc⟩, ⟨%W, -, HW⟩, H0, H1, H2, H3, H4⟩
  iapply (run_middle c (grid0.coords t) (ms0 t) (hs0 t) (ms1 t) (hs1 t) (ms2 t) (hs2 t) (ms3 t) (hs3 t) (ms4 t) (hs4 t) hc0 hc1 hc2 (iblk m c 1 t) (iblk m c 2 t) (rowsAt m c t.val) (tileAt m c (t.val - 1) (pred_lt t)) _)
  isplitl [H1]; · iexact H1
  isplitl [H2]; · iexact H2
  isplitl [Hh]; · iexact Hh
  isplitl [H4]; · iexact H4
  iintro ⟨H1, H2, Hh, H4⟩
  isplitl [Hg Hh Hc]
  · isplitl [Hg]; · iexact Hg
    isplitl [Hh]; · iapply scratchP_next m c t.val; iexact Hh
    iexact Hc
  isplitl [HW]
  · iexists W; isplitr; · ipureintro; trivial
    iexact HW
  isplitl [H0]; · iexact H0
  isplitl [H1]; · iexact H1
  isplitl [H2]; · iexact H2
  isplitl [H3]; · iexact H3
  iexact H4

end Cert.MidIdeal.Mlp

end
-- ==== Proof.Mid.MlpFrame.lean ====
/- The inner feed-forward call's frame, at any values: the proof data, the body at every point, the launch. -/
module

public import proofs.«01_k».proof.Proof.Mid.MlpBodyA
public import proofs.«01_k».proof.Proof.Mid.MlpBodyB
public import proofs.«01_k».proof.Proof.Mid.MlpBodyC
public import proofs.«01_k».proof.Proof.Mid.MlpBodyD
public import Idealize.ShloMosaic.Lib.Claim

@[expose] public section

set_option maxRecDepth 16384

noncomputable section

namespace Cert.MidIdeal.Mlp

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this proof: the pipeline's algebra beside the counters of the body's own transfers. -/
local notation "𝕄" => MT nD τ sig Unit (Elt F) ℕ (Pipeline.UD sig nD τ) ℕ

variable (m : (ℓ : Loc nD τ sig) → Buf (Elt F) ℓ)

/-- The proof data: the arrays as the region finds them; each input's buffer at its block, the result's at `tileAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileAt m c t.val t.isLt
  Φ t := PhiR m c t.val
  q _ := fullShare
  owed _ := 0

theorem A_eq (c : Dev nD) (w : Fin cfg0.W) : (dats m 0 c).A w = V m c (Pipeline.arrRef spec0 w) := by dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0' (c : Dev nD) (t : Fin cfg0.N) : (dats m 0 c).after 0 t = iblk m c 0 t := by dsimp only [dats]
theorem after0 (c : Dev nD) (t : Fin cfg0.N) : (dats m 0 c).after 0 t = gain m c := (after0' m c t).trans (gain_eq m c t)
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = tileAt m c t.val t.isLt := by dsimp only [dats]
theorem before0 (c : Dev nD) (t : Fin cfg0.N) (d) : (dats m 0 c).before 0 t d = gain m c := (found0 m (dats m 0 c) (A_eq m c 0) (after0' m c) t d).trans (gain_eq m c t)
theorem before1 (c : Dev nD) (t : Fin cfg0.N) (d) : (dats m 0 c).before 1 t d = iblk m c 1 t := found1 m (dats m 0 c) (A_eq m c 1) (after1 m c) t d
theorem before2 (c : Dev nD) (t : Fin cfg0.N) (d) : (dats m 0 c).before 2 t d = iblk m c 2 t := found2 m (dats m 0 c) (A_eq m c 2) (after2 m c) t d
theorem before3 (c : Dev nD) (t : Fin cfg0.N) (d) : (dats m 0 c).before 3 t d = iblk m c 3 t := found3 m (dats m 0 c) (A_eq m c 3) (after3 m c) t d
/-- After a row block's first point the body finds in the result's tile what the point before left. -/
theorem before4 (c : Dev nD) (t : Fin cfg0.N) (h : t.val % 8 ≠ 0) (d) : (dats m 0 c).before 4 t d = tileAt m c (t.val - 1) (pred_lt t) :=
  ((dats m 0 c).before_out_kept 4 rfl t (fun h0 => h (by rw [h0])) (Bool.eq_false_iff.mpr fun hf => by
    have := (flush0_4 ⟨t.val - 1, pred_lt t⟩).mp hf
    have h' : (t.val - 1) % 8 = 7 := this
    omega) (fun _ => rfl) (fun _ _ => rfl) d).trans (after4 m c _)

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The two, as the cases state them. -/
theorem pre_around (c : Dev nD) (t : Fin cfg0.N) (R : sProp 𝕄) (hR : iprop(∃ d, owns (c : Thread nD τ) (ms4 t) fullShare ((dats m 0 c).before 4 t d)) ⊢ R) :
    bodyPre m c t ⊢ around m c t t.val R := by
  unfold bodyPre around
  simp only [before0 m c t, before1 m c t, before2 m c t, before3 m c t]
  rw [PhiR_castSucc m c t]
  unfold Dat.owesAt Pipeline.owesWithin
  rw [show (dats m 0 c).owed t.castSucc = 0 from rfl]
  unfold PhiR
  iintro ⟨HP, ⟨%W, -, HW⟩, ⟨%d0, H0⟩, ⟨%d1, H1⟩, ⟨%d2, H2⟩, ⟨%d3, H3⟩, H4⟩
  isplitl [HP]; · iexact HP
  isplitl [HW]
  · iexists W; isplitr; · ipureintro; trivial
    iexact HW
  isplitl [H0]; · iexact H0
  isplitl [H1]; · iexact H1
  isplitl [H2]; · iexact H2
  isplitl [H3]; · iexact H3
  iapply hR; iexact H4
theorem post_around (c : Dev nD) (t : Fin cfg0.N) :
    around m c t (t.val + 1) (owns (c : Thread nD τ) (ms4 t) fullShare (tileAt m c t.val t.isLt)) ⊢ bodyPost m c t := by
  unfold bodyPost around
  rw [after0, after1, after2, after3, after4, PhiR_succ m c t]
  unfold Dat.owesAt Pipeline.owesWithin
  rw [show (dats m 0 c).owed t.succ = 0 from rfl]
  unfold PhiR
  iintro ⟨HP, ⟨%W, -, HW⟩, HR⟩
  isplitl [HP]; · iexact HP
  isplitl [HW]
  · iexists W; isplitr; · ipureintro; exact fun _ _ => Or.inl trivial
    iexact HW
  iexact HR

/-- The body at any point, by the point's place in its row block. -/
theorem sound_body (c : Dev nD) (t : Fin cfg0.N) :
    bodyPre m c t ⊢ wp frame (wpE (defs₀ (F := F)) Variants.none c none) Set.univ (bodyAt0 t) (fun _ => bodyPost m c t) := by
  have hany : iprop(∃ d, owns (c : Thread nD τ) (ms4 t) fullShare ((dats m 0 c).before 4 t d)) ⊢ (iprop(∃ o, owns (c : Thread nD τ) (ms4 t) fullShare o) : sProp 𝕄) := by
    iintro ⟨%d, H⟩; iexists _; iexact H
  have hprev (h : t.val % 8 ≠ 0) : iprop(∃ d, owns (c : Thread nD τ) (ms4 t) fullShare ((dats m 0 c).before 4 t d)) ⊢ (owns (c : Thread nD τ) (ms4 t) fullShare (tileAt m c (t.val - 1) (pred_lt t)) : sProp 𝕄) := by
    simp only [before4 m c t h]; iintro ⟨%d, H⟩; iexact H
  have fin {P : sProp 𝕄} (h : P ⊢ wp frame (wpE (defs₀ (F := F)) Variants.none c none) Set.univ (bodyAt0 t) (fun _ => around m c t (t.val + 1) (owns (c : Thread nD τ) (ms4 t) fullShare (tileAt m c t.val t.isLt)))) :
      P ⊢ wp frame (wpE (defs₀ (F := F)) Variants.none c none) Set.univ (bodyAt0 t) (fun _ => bodyPost m c t) :=
    triple_restated h rfl .rfl fun _ => post_around m c t
  by_cases h0 : t.val % 8 = 0
  · by_cases hz : t.val = 0
    · exact (pre_around m c t _ hany).trans (fin (body_first m c t h0 hz))
    · exact (pre_around m c t _ hany).trans (fin (body_open m c t h0 hz))
  · by_cases h1 : t.val % 8 = 1 ∧ t.val < 248
    · exact (pre_around m c t _ (hprev h0)).trans (fin (body_start m c t h0 h1))
    · exact (pre_around m c t _ (hprev h0)).trans (fin (body_middle m c t h0 h1))

/-! ## The launch -/

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over holds before the first point; what holds after the last one gives it back. -/
theorem hin (c : Dev nD) : Pipeline.ΦD osem spec0 HB (V m) c ⊢ (dats m 0 c).Φ 0 := by
  rw [launched_eq, show (dats m 0 c).Φ 0 = PhiR m c 0 from rfl]
  unfold PhiR
  rw [scratchP_any m c 0 rfl, copyP_idle m c 0 (by unfold flying; omega)]
  unfold idleP owns
  iintro ⟨⟨Hh, ⟨%dX, %fX, -, HX⟩, ⟨%dM, %fM, -, HM⟩⟩, Hg, ⟨Hs8, Hs9⟩, HWX, HWM⟩
  isplitl [Hg]; · iexact Hg
  isplitl [Hh]; · iexact Hh
  isplitl [HX]; · iexists fX; iexact HX
  isplitl [HM]; · iexists fM; iexact HM
  isplitl [Hs8]; · iexact Hs8
  isplitl [Hs9]; · iexact Hs9
  isplitl [HWX]; · iexact HWX
  iexact HWM
theorem hout (c : Dev nD) : (dats m 0 c).Φ (Fin.last cfg0.N) ⊢ Pipeline.ΦD osem spec0 HB (V m) c := by
  rw [launched_eq, show (dats m 0 c).Φ (Fin.last cfg0.N) = PhiR m c grid0.N from rfl, show grid0.N = 256 by rw [N_0]]
  unfold PhiR
  rw [scratchP_any m c 256 rfl, copyP_idle m c 256 (by unfold flying; omega)]
  unfold idleP owns
  iintro ⟨Hg, Hh, ⟨%fX, HX⟩, ⟨%fM, HM⟩, Hs8, Hs9, HWX, HWM⟩
  isplitl [Hh HX HM]
  · isplitl [Hh]; · iexact Hh
    isplitl [HX]
    · iexists _; iexists fX; isplitr; · ipureintro; exact rfl
      iexact HX
    iexists _; iexists fM; isplitr; · ipureintro; exact rfl
    iexact HM
  isplitl [Hg]; · iexact Hg
  isplitl [Hs8 Hs9]
  · isplitl [Hs8]; · iexact Hs8
    iexact Hs9
  isplitl [HWX]; · iexact HWX
  iexact HWM

variable (ρ : Dev nD → PrngReg)

set_option backward.isDefEq.respectTransparency.types false in
/-- Every fair run of @main ends, the arrays as the proof data leave them, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts HB HB_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have kept (c : Dev nD) (r) (h : Pipeline.FramePost cfgs (dats m) 0 (V m) r) (b : Ref sig .tc) (hb : b ∈ Pipeline.restRefs sig spec0)
      (hV : V m c b = m ((c.tc : Thread nD τ).loc b)) : r.2.mem ((c.tc : Thread nD τ).loc b) = m ((c.tc : Thread nD τ).loc b) := ((h c).2 b hb).trans hV
  (θ_run defs _ _).mono (fun r h c => ⟨
      kept c r h main_arg0 (Pipeline.mem_restRefs_of main_arg0 (by decide) (by decide)) (V_main_arg0 m c),
      kept c r h main_arg1 (Pipeline.mem_restRefs_of main_arg1 (by decide) (by decide)) (V_main_arg1 m c),
      kept c r h main_arg2 (Pipeline.mem_restRefs_of main_arg2 (by decide) (by decide)) (V_main_arg2 m c),
      kept c r h main_arg3 (Pipeline.mem_restRefs_of main_arg3 (by decide) (by decide)) (V_main_arg3 m c),
      kept c r h main_arg4 (Pipeline.mem_restRefs_of main_arg4 (by decide) (by decide)) (V_main_arg4 m c),
      kept c r h main_arg5 (Pipeline.mem_restRefs_of main_arg5 (by decide) (by decide)) (V_main_arg5 m c)⟩) (run_main m ρ)

/-- The frame: every fair run ends, the arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.MidIdeal.Mlp

end
-- ==== Proof.Mid.MlpValue.lean ====
/- The inner feed-forward kernel's result array, entry by entry: the tile each grid point leaves, then the array those tiles make. -/
module

public import proofs.«01_k».proof.Proof.Mid.MlpPay
public import proofs.«01_k».proof.Proof.Mid.MlpFrame

@[expose] public section

set_option maxRecDepth 16384

noncomputable section

namespace Cert.MidIdeal.Mlp

open Cert.MidIdeal Cert.MidIdeal.Gen Idealize.ShloMosaic Idealize.ShloMosaic.TcCoe Idealize.SL.Sem
open scoped BigOperators

variable (m : (ℓ : Loc nD τ sig) → Buf (Elt Ideal) ℓ)

/-- The windows' block indices at a grid point. -/
theorem idx_win : ∀ t : Fin cfg0.N, win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = t.val % 8
    ∧ win0_2.index t (0 : Fin 3) = 0 ∧ win0_2.index t (1 : Fin 3) = t.val % 8 ∧ win0_2.index t (2 : Fin 3) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

/-- The gain array the region reads is the gain argument, laid with a unit axis in the middle. -/
theorem V_gain (c : Dev nD) (l : Fin 4) (k : Fin 2048) : V m c main_v2 (ix3 l 0 k) = m ((c : Thread nD τ).loc main_arg2) (ix2 l k) := by
  have h : V m c main_v2 = broadcastInDim S4x1x2048 ![0, 2] bcast_S4x2048_S4x1x2048_0_2 (m ((c : Thread nD τ).loc main_arg2)) := by
    unfold V hostOps0; after_results
  rw [h]
  pointwise

/-- The two weight arrays the region reads are the weight arguments (a change of format only). -/
theorem V_w1 (c : Dev nD) (i : S4x2048x8192.Idx) : V m c main_v0 i = m ((c : Thread nD τ).loc main_arg3) i := by
  have h : V m c main_v0 = (truncf .bf16 (m ((c : Thread nD τ).loc main_arg3) : FVec Ideal S4x2048x8192 .f32) bitsLt_bf16_f32 : FVec Ideal S4x2048x8192 .bf16) := by
    unfold V hostOps0; after_results
  rw [h]
  rfl
theorem V_w2 (c : Dev nD) (i : S4x8192x2048.Idx) : V m c main_v1 i = m ((c : Thread nD τ).loc main_arg4) i := by
  have h : V m c main_v1 = (truncf .bf16 (m ((c : Thread nD τ).loc main_arg4) : FVec Ideal S4x8192x2048 .f32) bitsLt_bf16_f32 : FVec Ideal S4x8192x2048 .bf16) := by
    unfold V hostOps0; after_results
  rw [h]
  rfl

/-- The first layer's gain row. -/
theorem gain_apply (c : Dev nD) (k : Fin 2048) : gain m c (ix3 0 0 k) = m ((c : Thread nD τ).loc main_arg2) (ix2 0 k) := by
  obtain ⟨e0, e1, e2, -⟩ := idx_win ⟨0, by decide⟩
  unfold gain iblk
  rw [View.read_apply, ← V_gain m c 0 k]
  show V m c main_v2 _ = _
  congr 1
  funext a
  apply Fin.ext
  match a with
  | ⟨0, _⟩ => show win0_0.index _ (0 : Fin 3) * 1 + 1 * 0 = 0; rw [e0]
  | ⟨1, _⟩ => show win0_0.index _ (1 : Fin 3) * 1 + 1 * 0 = 0; rw [e1]
  | ⟨2, _⟩ => show win0_0.index _ (2 : Fin 3) * 2048 + 1 * k.val = k.val; rw [e2]; omega

/-- Column block `t % 8` of the first layer's first weights, and -/
theorem w1_apply (c : Dev nD) (t : Fin cfg0.N) (k : Fin 2048) (y : Fin 1024) (j : Fin 8192) (hj : j.val = t.val % 8 * 1024 + y.val) :
    (iblk m c 1 t : Vec Ideal S1x2048x1024 .bf16) (ix3 0 k y) = m ((c : Thread nD τ).loc main_arg3) (ix3 0 k j) := by
  obtain ⟨-, -, -, e0, e1, e2, -⟩ := idx_win t
  unfold iblk
  rw [View.read_apply, ← V_w1 m c]
  show V m c main_v0 _ = _
  congr 1
  funext a
  apply Fin.ext
  match a with
  | ⟨0, _⟩ => show win0_1.index t (0 : Fin 3) * 1 + 1 * 0 = 0; rw [e0]
  | ⟨1, _⟩ => show win0_1.index t (1 : Fin 3) * 2048 + 1 * k.val = k.val; rw [e1]; omega
  | ⟨2, _⟩ => show win0_1.index t (2 : Fin 3) * 1024 + 1 * y.val = j.val; rw [e2, hj]; omega

/-- row block `t % 8` of its second weights. -/
theorem w2_apply (c : Dev nD) (t : Fin cfg0.N) (y : Fin 1024) (p : Fin 2048) (j : Fin 8192) (hj : j.val = t.val % 8 * 1024 + y.val) :
    (iblk m c 2 t : Vec Ideal S1x1024x2048 .bf16) (ix3 0 y p) = m ((c : Thread nD τ).loc main_arg4) (ix3 0 j p) := by
  obtain ⟨-, -, -, -, -, -, e0, e1, e2, -⟩ := idx_win t
  unfold iblk
  rw [View.read_apply, ← V_w2 m c]
  show V m c main_v1 _ = _
  congr 1
  funext a
  apply Fin.ext
  match a with
  | ⟨0, _⟩ => show win0_2.index t (0 : Fin 3) * 1 + 1 * 0 = 0; rw [e0]
  | ⟨1, _⟩ => show win0_2.index t (1 : Fin 3) * 1024 + 1 * y.val = j.val; rw [e1, hj]; omega
  | ⟨2, _⟩ => show win0_2.index t (2 : Fin 3) * 2048 + 1 * p.val = p.val; rw [e2]; omega

/-- The landed blocks: row block `n / 8` of the two operands. -/
theorem blkX_apply (c : Dev nD) (n : ℕ) (hn : n < 256) (r : Fin 1024) (k : Fin 2048) (q : Fin 32768) (hq : q.val = n / 8 * 1024 + r.val) :
    blkX m c n (ix2 r k) = m ((c : Thread nD τ).loc main_arg0) (ix2 q k) := by
  rw [← V_main_arg0 m c]
  show V m c main_arg0 _ = _
  congr 1
  funext a
  apply Fin.ext
  match a with
  | ⟨0, _⟩ => show 1024 * (n / 8 % 32) + 1 * r.val = q.val; omega
  | ⟨1, _⟩ => show 0 + 1 * k.val = k.val; omega
theorem blkM_apply (c : Dev nD) (n : ℕ) (hn : n < 256) (r : Fin 1024) (k : Fin 2048) (q : Fin 32768) (hq : q.val = n / 8 * 1024 + r.val) :
    blkM m c n (ix2 r k) = m ((c : Thread nD τ).loc main_arg1) (ix2 q k) := by
  rw [← V_main_arg1 m c]
  show V m c main_arg1 _ = _
  congr 1
  funext a
  apply Fin.ext
  match a with
  | ⟨0, _⟩ => show 1024 * (n / 8 % 32) + 1 * r.val = q.val; omega
  | ⟨1, _⟩ => show 0 + 1 * k.val = k.val; omega

/-! ## The tile, as a growing sum -/

/-- Row `q` of the two operands and of their sum, and the arguments the layer multiplies it by. -/
abbrev inX (c : Dev nD) (q : Fin 32768) (k : Fin 2048) : EReal := m ((c : Thread nD τ).loc main_arg0) (ix2 q k)
abbrev inM (c : Dev nD) (q : Fin 32768) (k : Fin 2048) : EReal := m ((c : Thread nD τ).loc main_arg1) (ix2 q k)
abbrev row (c : Dev nD) (q : Fin 32768) (k : Fin 2048) : EReal := inX m c q k + inM m c q k
abbrev gRow (c : Dev nD) (k : Fin 2048) : EReal := m ((c : Thread nD τ).loc main_arg2) (ix2 0 k)
abbrev up (c : Dev nD) (k : Fin 2048) (j : Fin 8192) : EReal := m ((c : Thread nD τ).loc main_arg3) (ix3 0 k j)
abbrev down (c : Dev nD) (j : Fin 8192) (p : Fin 2048) : EReal := m ((c : Thread nD τ).loc main_arg4) (ix3 0 j p)

/-- Activation `j`'s share of entry `p` of row `q` (nothing past the last activation). -/
def share (c : Dev nD) (q : Fin 32768) (p : Fin 2048) (j : ℕ) : EReal :=
  if h : j < 8192 then Rows.act (Rows.nrm (row m c q) (gRow m c)) (fun k => up m c k ⟨j, h⟩) * down m c ⟨j, h⟩ p else 0

theorem share_of_lt (c : Dev nD) (q : Fin 32768) (p : Fin 2048) (j : Fin 8192) :
    share m c q p j.val = Rows.act (Rows.nrm (row m c q) (gRow m c)) (fun k => up m c k j) * down m c j p := dif_pos j.isLt

/-- The kept rows at point `t`: row `r` of the block is the normalised row of the sum of the operands. -/
theorem rows_apply (c : Dev nD) (n : ℕ) (hn : n < 256) (r : Fin 1024) (q : Fin 32768) (hq : q.val = n / 8 * 1024 + r.val) (k : Fin 2048) :
    (rowsAt m c n (ix2 r k) : EReal) = Rows.nrm (row m c q) (gRow m c) k := by
  unfold rowsAt
  rw [rowV_apply]
  congr 1
  · funext k
    rw [blkX_apply m c n hn r k q hq, blkM_apply m c n hn r k q hq]
  · funext k
    exact gain_apply m c k

/-- One step at point `t` adds the shares of activations `1024 (t % 8) …`. -/
theorem step_share (c : Dev nD) (t : Fin cfg0.N) (a : Vec Ideal S1024x2048 .f32) (r : Fin 1024) (p : Fin 2048) (q : Fin 32768) (hq : q.val = t.val / 8 * 1024 + r.val) :
    k0_pay2 (F := Ideal) (rowsAt m c t.val) (iblk m c 1 t) a (iblk m c 2 t) (ix2 r p)
      = (a (ix2 r p) + ∑ j ∈ Finset.range 1024, share m c q p (t.val % 8 * 1024 + j) : EReal) := by
  have ht : t.val < 256 := lt_of_lt_of_eq t.isLt N_0
  refine (step_apply _ _ _ _ r p).trans (congrArg (fun s : EReal => (a (ix2 r p) : EReal) + s) ?_)
  rw [Finset.sum_range]
  refine Finset.sum_congr rfl fun y _ => ?_
  obtain ⟨j, hj⟩ : ∃ j : Fin 8192, j.val = t.val % 8 * 1024 + y.val := ⟨⟨t.val % 8 * 1024 + y.val, by have := y.isLt; omega⟩, rfl⟩
  rw [← hj, share_of_lt]
  refine congrArg₂ (fun u v : EReal => u * v) (congrArg₂ Rows.act (funext fun k => ?_) (funext fun k => ?_)) ?_
  · exact rows_apply m c t.val ht r q hq k
  · exact w1_apply m c t k y j hj
  · exact w2_apply m c t y p j hj

/-- After every point the tile holds the row's entry plus the shares so far. -/
theorem tile_partial (c : Dev nD) (r : Fin 1024) (p : Fin 2048) : ∀ (n : ℕ) (h : n < cfg0.N) (q : Fin 32768), q.val = n / 8 * 1024 + r.val →
    tileAt m c n h (ix2 r p) = row m c q p + ∑ j ∈ Finset.range ((n % 8 + 1) * 1024), share m c q p j := by
  have base : ∀ (n : ℕ) (h : n < cfg0.N) (q : Fin 32768), q.val = n / 8 * 1024 + r.val → n % 8 = 0 →
      tileAt m c n h (ix2 r p) = row m c q p + ∑ j ∈ Finset.range ((n % 8 + 1) * 1024), share m c q p j := by
    intro n h q hq h0
    have hn : n < 256 := lt_of_lt_of_eq h N_0
    rw [tileAt_open m c ⟨n, h⟩ h0]
    refine (step_share m c ⟨n, h⟩ _ r p q hq).trans ?_
    unfold sumAt
    rw [sumV_apply, blkX_apply m c n hn r p q hq, blkM_apply m c n hn r p q hq]
    simp only [h0, Nat.zero_mul, Nat.zero_add, Nat.one_mul]
  intro n
  induction n with
  | zero => intro h q hq; exact base 0 h q hq rfl
  | succ n ih =>
    intro h q hq
    by_cases h0 : (n + 1) % 8 = 0
    · exact base _ h q hq h0
    · rw [tileAt_mid m c ⟨n + 1, h⟩ h0]
      refine (step_share m c ⟨n + 1, h⟩ _ r p q hq).trans ?_
      rw [show tileAt m c ((⟨n + 1, h⟩ : Fin cfg0.N).val - 1) _ (ix2 r p) = _ from
        ih (Nat.lt_of_succ_lt h) q (by rw [hq]; congr 2; omega), add_assoc]
      congr 1
      rw [show (n + 1) % 8 = n % 8 + 1 by omega, show (n % 8 + 1 + 1) * 1024 = (n % 8 + 1) * 1024 + 1024 by omega, Finset.sum_range_add]

/-- At a row block's last point the tile holds the whole row after the layer. -/
theorem tile_last (c : Dev nD) (t : Fin cfg0.N) (h7 : t.val % 8 = 7) (r : Fin 1024) (p : Fin 2048) (q : Fin 32768) (hq : q.val = t.val / 8 * 1024 + r.val)
    (p' : Fin 2048) (hp : p'.val = p.val) :
    tileAt m c t.val t.isLt (ix2 r p) = Rows.ffn (row m c q) (gRow m c) (up m c) (down m c) p' := by
  obtain rfl : p' = p := Fin.ext hp
  refine (tile_partial m c r p' t.val t.isLt q hq).trans (congrArg (fun s : EReal => row m c q p' + s) ?_)
  rw [h7, show (7 + 1) * 1024 = 8192 from rfl, Finset.sum_range]
  exact Finset.sum_congr rfl fun j _ => share_of_lt m c q p' j

/-- The result: entry `p` of row `q` is that of the row after the layer. -/
def result (c : Dev nD) : Buf (Elt Ideal) ((c : Thread nD τ).loc main_v4) := fun i : S32768x2048.Idx =>
  (Rows.ffn (row m c (i 0)) (gRow m c) (up m c) (down m c) (i 1) : EReal)

/-- What a row block's last point writes back is its block of `result`. -/
theorem flushed_eq (c : Dev nD) (t : Fin cfg0.N) (hf : (cfg0.win 4).flush t = true) :
    (dats m 0 c).flushed 4 t = ((cfg0.win 4).blk t).view.read (Elt Ideal) (result m c) := by
  have h7 := (flush0_4 t).mp hf
  obtain ⟨-, -, -, -, -, -, -, -, -, -, -, e0, e1⟩ := idx_win t
  show (cfg0.win 4).cut (grid0.coords t) ((dats m 0 c).after 4 t) = _
  rw [after4]
  funext y
  obtain ⟨r, k, rfl⟩ : ∃ (r : Fin 1024) (k : Fin 2048), y = ix2 r k := ⟨y 0, y 1, eq_ix2 y⟩
  rw [View.read_apply]
  unfold result
  show tileAt m c t.val t.isLt (ix2 r k) = _
  refine tile_last m c t h7 r k _ ?_ _ ?_
  · show win0_4.index t (0 : Fin 2) * 1024 + 1 * r.val = _; omega
  · show win0_4.index t (1 : Fin 2) * 2048 + 1 * k.val = _; omega

/-- An index of the array is in a point's block iff each coordinate is in the block's range on its axis. -/
theorem mem_blk (t : Fin cfg0.N) (i : S32768x2048.Idx) : i ∈ ((cfg0.win 4).blk t).view.set
    ↔ ∀ a : Fin 2, win0_4.index t a * S1024x2048.size a ≤ (i a).val ∧ (i a).val < win0_4.index t a * S1024x2048.size a + S1024x2048.size a := by
  show i ∈ ((View.whole main_v4).slice (win0_4.rect t)).set ↔ _
  rw [View.set_slice_whole, Rect.mem_set_unit]
  exact Iff.rfl

/-- Every index of the result lies in the block of its row block's last point. -/
theorem covered (i : S32768x2048.Idx) : ∃ t : Fin cfg0.N, (cfg0.win 4).flush t = true ∧ i ∈ ((cfg0.win 4).blk t).view.set := by
  have h0 : (i 0).val < 32768 := (i 0).isLt
  have h1 : (i 1).val < 2048 := (i 1).isLt
  have hN : cfg0.N = 256 := N_0
  have ht : (i 0).val / 1024 * 8 + 7 < cfg0.N := by omega
  obtain ⟨-, -, -, -, -, -, -, -, -, -, -, e0, e1⟩ := idx_win ⟨_, ht⟩
  refine ⟨⟨_, ht⟩, (flush0_4 _).mpr (by show ((i 0).val / 1024 * 8 + 7) % 8 = 7; omega), (mem_blk _ i).mpr fun a => ?_⟩
  have e0' : win0_4.index ⟨_, ht⟩ (0 : Fin 2) = (i 0).val / 1024 := e0.trans (by show ((i 0).val / 1024 * 8 + 7) / 8 = _; omega)
  match a with
  | ⟨0, _⟩ => show win0_4.index ⟨_, ht⟩ (0 : Fin 2) * 1024 ≤ (i 0).val ∧ (i 0).val < win0_4.index ⟨_, ht⟩ (0 : Fin 2) * 1024 + 1024; omega
  | ⟨1, _⟩ => show win0_4.index ⟨_, ht⟩ (1 : Fin 2) * 2048 ≤ (i 1).val ∧ (i 1).val < win0_4.index ⟨_, ht⟩ (1 : Fin 2) * 2048 + 2048; omega

/-- The kernel's run at the extended reals: the result array is `result`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 4).trans ((dats m 0 c).arrAt_eq_of_cover 4 _ (flushed_eq m c) covered), h.2 c⟩)
    (θ_run_and (run_main m ρ) (unchanged m ρ))

end Cert.MidIdeal.Mlp

end
-- ==== Proof.Mid.MlpRef.lean ====
/- The inner feed-forward call's reference, read entry by entry over the extended reals. -/
module

public import proofs.«01_k».proof.Proof.Rows
public import proofs.«01_k».proof.Proof.Gen.MidRefIdeal.Read

@[expose] public section

set_option maxRecDepth 16384

noncomputable section

namespace Cert.MidRefIdeal.Tile

open Cert.MidRefIdeal Cert.MidRefIdeal.Gen Cert.MidRefIdeal.Read Idealize.ShloMosaic
open scoped BigOperators

section
variable (x m : Vec Ideal S32768x2048 .f32) (g : Vec Ideal S4x2048 .f32) (w1 : Vec Ideal S4x2048x8192 .f32) (w2 : Vec Ideal S4x8192x2048 .f32)

/-- The normalised row of the sum of the two operands, with the first layer's gain. -/
theorem rows_apply (q : Fin 32768) (k : Fin 2048) : val_main_v15 (F := Ideal) x m g (ix2 q k)
    = Rows.nrm (fun k => (x (ix2 q k) + m (ix2 q k) : EReal)) (fun k => g (ix2 0 k)) k := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Rows.nrm, Rows.scale]

/-- One squared activation. -/
theorem act_apply (q : Fin 32768) (j : Fin 8192) : val_main_v20 (F := Ideal) x m g w1 (ix2 q j)
    = Rows.act (fun k => val_main_v15 (F := Ideal) x m g (ix2 q k)) (fun k => w1 (ix3 0 k j)) := by
  pointwise [val_main_v20, val_main_v19, val_main_call0_v0, val_main_call0_cst, val_main_v18, val_main_v17, val_main_v16, Rows.act]

/-- The reference's result: the row after the layer. -/
theorem ffn_apply (q : Fin 32768) (p : Fin 2048) : val_main_v24 (F := Ideal) x m g w1 w2 (ix2 q p)
    = Rows.ffn (fun k => (x (ix2 q k) + m (ix2 q k) : EReal)) (fun k => g (ix2 0 k)) (fun k j => w1 (ix3 0 k j)) (fun j p => w2 (ix3 0 j p)) p := by
  have h : val_main_v24 (F := Ideal) x m g w1 w2 (ix2 q p)
      = (x (ix2 q p) + m (ix2 q p)) + ∑ j : Fin 8192, val_main_v20 (F := Ideal) x m g w1 (ix2 q j) * w2 (ix3 0 j p) := by
    pointwise [val_main_v24, val_main_v23, val_main_v22, val_main_v21, val_main_v0]
  rw [h]
  simp only [act_apply, rows_apply]
  rfl

end

end Cert.MidRefIdeal.Tile

end
-- ==== Proof.Mid.MlpClaim.lean ====
/- The inner feed-forward call's value claim: over the extended reals the kernel and its reference end with one array. -/
module

public import proofs.«01_k».proof.Defs
public import proofs.«01_k».proof.Proof.Mid.MlpValue
public import proofs.«01_k».proof.Proof.Mid.MlpRef
public import Idealize.ShloMosaic.Lib.Quiescent

@[expose] public section

set_option maxRecDepth 16384

noncomputable section

namespace Cert.Proof

open Idealize.ShloMosaic Idealize.SL.Sem

/-- From memories that agree on the arguments the inner feed-forward kernel and its reference end with equal results. -/
theorem algebraic_mid : Cert.algebraic_MidIdeal_MidRefIdeal := by
  intro m g m' g' _ hagree
  refine ⟨fun c => MidIdeal.Mlp.result m c, MidIdeal.Mlp.run m g, ?_⟩
  refine (θ_run _ _ _).mono (fun r h c => ⟨(h c).1.trans ?_, (h c).2⟩) (MidRefIdeal.Value.run (F := Ideal) m' g')
  obtain ⟨h0, h1, h2, h3, h4, -⟩ := hagree c
  refine (MidRefIdeal.Read.val_main_v24_eq _ _ _ _ _).trans ?_
  rw [h0, h1, h2, h3, h4]
  funext i
  obtain ⟨q, p, rfl⟩ : ∃ (q : Fin 32768) (p : Fin 2048), i = ix2 q p := ⟨i 0, i 1, eq_ix2 i⟩
  exact MidRefIdeal.Tile.ffn_apply _ _ _ _ _ q p

/-- The reference terminates with its arguments unchanged and no semaphore counted up (it declares none). -/
theorem frame_midRef : Cert.quiescent_MidRefIdeal := fun m g _ =>
  (θ_run _ _ _).mono (fun r h => ⟨fun c => (h c).2, sem_eq_zero_of_no_sems rfl r.2⟩) (MidRefIdeal.Value.run (F := Ideal) m g)

end Cert.Proof

end
-- ==== Proof.PrepMath.lean ====
/- The discretisation of the state space at one group and state, over the extended reals, and the two layouts its
   arrays come in. -/
module

public import Idealize.ShloMosaic.Lib.Pointwise
public import Idealize.ShloMosaic.Lib.Pipeline.Value

@[expose] public section

set_option maxRecDepth 16384

noncomputable section

namespace Cert.Prep.Disc

open Idealize.ShloMosaic

/-- The real part of `exp ((a + i b) · exp s)`. -/
abbrev lamRe (a b s : EReal) : EReal := Ideal.exp (a * Ideal.exp s) * Ideal.cos (b * Ideal.exp s)

/-- The imaginary part of `exp ((a + i b) · exp s)`. -/
abbrev lamIm (a b s : EReal) : EReal := Ideal.exp (a * Ideal.exp s) * Ideal.sin (b * Ideal.exp s)

/-- The real part of `(lam - 1) / (a + i b)`. -/
abbrev quoRe (a b s : EReal) : EReal := Ideal.div ((lamRe a b s - 1) * a + lamIm a b s * b) (a * a + b * b)

/-- The imaginary part of `(lam - 1) / (a + i b)`. -/
abbrev quoIm (a b s : EReal) : EReal := Ideal.div (lamIm a b s * a - (lamRe a b s - 1) * b) (a * a + b * b)

/-- The real part of the quotient times `u + i v`. -/
abbrev barRe (a b s u v : EReal) : EReal := quoRe a b s * u - quoIm a b s * v

/-- The imaginary part of the quotient times `u + i v`. -/
abbrev barIm (a b s u v : EReal) : EReal := quoRe a b s * v + quoIm a b s * u

/-- The group of a flat coordinate: 64 states to a group. -/
abbrev grp (k : Fin 4096) : Fin 64 := ⟨k.val / 64, by omega⟩

/-- The state of a flat coordinate within its group. -/
abbrev sta (k : Fin 4096) : Fin 64 := ⟨k.val % 64, by omega⟩

/-- A coefficient array laid as one row per layer holds at `k` the entry of `k`'s group and state. -/
theorem row_apply {α : Type} (x : (⟨3, ![4, 64, 64]⟩ : Shape).Idx → α) (h : (⟨3, ![4, 64, 64]⟩ : Shape).ShapeCasts ⟨3, ![4, 1, 4096]⟩)
    (l : Fin 4) (k : Fin 4096) : shapeCast ⟨3, ![4, 1, 4096]⟩ x h (ix3 l 0 k) = x (ix3 l (grp k) (sta k)) := by
  refine shapeCast_apply x h _ _ ?_
  rw [Shape.rowMajor_val_three, Shape.rowMajor_val_three]
  show (l.val * 64 + k.val / 64) * 64 + k.val % 64 = (l.val * 1 + 0) * 4096 + k.val
  omega

/-- An input matrix laid with its input axis before the flat coordinate holds at `(j, k)` the entry of `k`'s group
    and state and of input `j`. -/
theorem mat_apply {α : Type} (x : (⟨4, ![4, 64, 64, 16]⟩ : Shape).Idx → α) (h : (⟨4, ![4, 64, 64, 16]⟩ : Shape).ShapeCasts ⟨3, ![4, 4096, 16]⟩)
    (h' : (⟨3, ![4, 4096, 16]⟩ : Shape).Transposes [0, 2, 1] ⟨3, ![4, 16, 4096]⟩) (l : Fin 4) (j : Fin 16) (k : Fin 4096) :
    transpose ⟨3, ![4, 16, 4096]⟩ [0, 2, 1] (shapeCast ⟨3, ![4, 4096, 16]⟩ x h) h' (ix3 l j k) = x (ix4 l (grp k) (sta k) j) := by
  rw [transpose_apply [0, 2, 1] _ h' (ix3 l j k) (ix3 l k j) (fun b => match b with
    | ⟨0, _⟩ => rfl
    | ⟨1, _⟩ => rfl
    | ⟨2, _⟩ => rfl)]
  refine shapeCast_apply x h _ _ ?_
  rw [Shape.rowMajor_val_four, Shape.rowMajor_val_three]
  show ((l.val * 64 + k.val / 64) * 64 + k.val % 64) * 16 + j.val = (l.val * 4096 + k.val) * 16 + j.val
  omega

end Cert.Prep.Disc

end
-- ==== Proof.PrepPay.lean ====
/- The state-space preparation's four stores, read entry by entry over the extended reals. -/
module

public import proofs.«01_k».proof.Proof.PrepMath
public import proofs.«01_k».proof.Proof.Gen.PrepIdeal.Skeleton

@[expose] public section

set_option maxRecDepth 16384

noncomputable section

namespace Cert.PrepIdeal.Tile

open Cert.PrepIdeal Cert.PrepIdeal.Gen Cert.Prep.Disc Idealize.ShloMosaic

variable (a b s : Vec Ideal S1x1x4096 .f32) (u v : Vec Ideal S1x16x4096 .f32) (j : Fin 16) (k : Fin 4096)

/-- The first store: the real part of the transition at `k`. -/
theorem pay10_apply : k0_pay10 (F := Ideal) a b s (ix3 0 0 k) = lamRe (a (ix3 0 0 k)) (b (ix3 0 0 k)) (s (ix3 0 0 k)) := by
  pointwise [k0_pay10, k0_pay8, k0_pay7, k0_pay6, k0_pay5, k0_pay4]

/-- The second store: the imaginary part of the transition at `k`. -/
theorem pay11_apply : k0_pay11 (F := Ideal) a b s (ix3 0 0 k) = lamIm (a (ix3 0 0 k)) (b (ix3 0 0 k)) (s (ix3 0 0 k)) := by
  pointwise [k0_pay11, k0_pay9, k0_pay7, k0_pay6, k0_pay5, k0_pay4]

/-- The third store: the real part of the discretised input matrix at `(j, k)`. -/
theorem pay2_apply : k0_pay2 (F := Ideal) (k0_pay14 a b s) (k0_pay15 a b s) (k0_pay16 u) v (ix3 0 j k)
    = barRe (a (ix3 0 0 k)) (b (ix3 0 0 k)) (s (ix3 0 0 k)) (u (ix3 0 j k)) (v (ix3 0 j k)) := by
  pointwise [k0_pay2, k0_pay1, k0_pay16, k0_pay15, k0_pay14, k0_pay13, k0_pay12, k0_pay9, k0_pay8, k0_pay7, k0_pay6, k0_pay5, k0_pay4]

/-- The fourth store: the imaginary part of the discretised input matrix at `(j, k)`. -/
theorem pay3_apply : k0_pay3 (F := Ideal) (k0_pay14 a b s) (k0_pay15 a b s) (k0_pay16 u) v (ix3 0 j k)
    = barIm (a (ix3 0 0 k)) (b (ix3 0 0 k)) (s (ix3 0 0 k)) (u (ix3 0 j k)) (v (ix3 0 j k)) := by
  pointwise [k0_pay3, k0_pay1, k0_pay16, k0_pay15, k0_pay14, k0_pay13, k0_pay12, k0_pay9, k0_pay8, k0_pay7, k0_pay6, k0_pay5, k0_pay4]

end Cert.PrepIdeal.Tile

end
-- ==== Proof.PrepValue.lean ====
/- The state-space preparation's four result arrays, entry by entry: what each grid point leaves in its blocks, one
   layer to a point, then the arrays those blocks tile. -/
module

public import proofs.«01_k».proof.Proof.PrepPay
public import proofs.«01_k».proof.Proof.Gen.PrepIdeal.Value

@[expose] public section

set_option maxRecDepth 16384

noncomputable section

namespace Cert.PrepIdeal.Tile

open Cert.PrepIdeal Cert.PrepIdeal.Gen Cert.PrepIdeal.Value Cert.Prep.Disc Idealize.ShloMosaic Idealize.ShloMosaic.TcCoe Idealize.SL.Sem

theorem hz3 : (![0, 0, 0] : Fin 3 → Nat) = fun _ => 0 := funext fun a => by fin_cases a <;> rfl

section Blocks
variable (a b s : Vec Ideal S1x1x4096 .f32) (u v : Vec Ideal S1x16x4096 .f32) (j : Fin 16) (k : Fin 4096)

/-- The first output block at `k`, from the five input blocks. -/
theorem out5_apply : out0_5 (F := Ideal) a b s u v (ix3 0 0 k) = lamRe (a (ix3 0 0 k)) (b (ix3 0 0 k)) (s (ix3 0 0 k)) := by
  unfold_out out0_5
  rw [View.canon_unit_zero hz3]
  simp only [View.ld_unit_zero (S := S1x1x4096) hz3]
  exact pay10_apply a b s k

/-- The second output block at `k`. -/
theorem out6_apply : out0_6 (F := Ideal) a b s u v (ix3 0 0 k) = lamIm (a (ix3 0 0 k)) (b (ix3 0 0 k)) (s (ix3 0 0 k)) := by
  unfold_out out0_6
  rw [View.canon_unit_zero hz3]
  simp only [View.ld_unit_zero (S := S1x1x4096) hz3]
  exact pay11_apply a b s k

/-- The third output block at `(j, k)`. -/
theorem out7_apply : out0_7 (F := Ideal) a b s u v (ix3 0 j k)
    = barRe (a (ix3 0 0 k)) (b (ix3 0 0 k)) (s (ix3 0 0 k)) (u (ix3 0 j k)) (v (ix3 0 j k)) := by
  unfold_out out0_7
  rw [View.canon_unit_zero hz3]
  simp only [View.ld_unit_zero (S := S1x1x4096) hz3, View.ld_unit_zero (S := S1x16x4096) hz3]
  exact pay2_apply a b s u v j k

/-- The fourth output block at `(j, k)`. -/
theorem out8_apply : out0_8 (F := Ideal) a b s u v (ix3 0 j k)
    = barIm (a (ix3 0 0 k)) (b (ix3 0 0 k)) (s (ix3 0 0 k)) (u (ix3 0 j k)) (v (ix3 0 j k)) := by
  unfold_out out0_8
  rw [View.canon_unit_zero hz3]
  simp only [View.ld_unit_zero (S := S1x1x4096) hz3, View.ld_unit_zero (S := S1x16x4096) hz3]
  exact pay3_apply a b s u v j k

end Blocks

variable (m : (ℓ : Loc nD τ sig) → Buf (Elt Ideal) ℓ)

/-- The first row array is the first coefficient argument laid flat. -/
theorem V_re (c : Dev nD) (l : Fin 4) (k : Fin 4096) :
    V m c main_v0 (ix3 l 0 k) = m ((c : Thread nD τ).loc main_arg0) (ix3 l (grp k) (sta k)) := by
  have h : V m c main_v0 = shapeCast S4x1x4096 (m ((c : Thread nD τ).loc main_arg0)) shapeCasts_S4x64x64_S4x1x4096 := by
    unfold V hostOps0; after_results; rfl
  rw [h]
  exact row_apply _ _ l k

/-- The second row array is the second coefficient argument laid flat. -/
theorem V_im (c : Dev nD) (l : Fin 4) (k : Fin 4096) :
    V m c main_v1 (ix3 l 0 k) = m ((c : Thread nD τ).loc main_arg1) (ix3 l (grp k) (sta k)) := by
  have h : V m c main_v1 = shapeCast S4x1x4096 (m ((c : Thread nD τ).loc main_arg1)) shapeCasts_S4x64x64_S4x1x4096 := by
    unfold V hostOps0; after_results; rfl
  rw [h]
  exact row_apply _ _ l k

/-- The third row array repeats each group's step over the group's states. -/
theorem V_step (c : Dev nD) (l : Fin 4) (k : Fin 4096) :
    V m c main_v4 (ix3 l 0 k) = m ((c : Thread nD τ).loc main_arg2) (ix2 l (grp k)) := by
  have h : V m c main_v4 = shapeCast S4x1x4096 (broadcastInDim S4x64x64 ![0, 1, 2] bcast_S4x64x1_S4x64x64_0_1_2
      (broadcastInDim S4x64x1 ![0, 1] bcast_S4x64_S4x64x1_0_1 (m ((c : Thread nD τ).loc main_arg2)))) shapeCasts_S4x64x64_S4x1x4096 := by
    unfold V hostOps0; after_results; rfl
  rw [h]
  refine (row_apply _ _ l k).trans ?_
  pointwise

/-- The first matrix array is the first input matrix with its input axis moved ahead of the flat coordinate. -/
theorem V_mre (c : Dev nD) (l : Fin 4) (j : Fin 16) (k : Fin 4096) :
    V m c main_v6 (ix3 l j k) = m ((c : Thread nD τ).loc main_arg3) (ix4 l (grp k) (sta k) j) := by
  have h : V m c main_v6 = transpose S4x16x4096 [0, 2, 1] (shapeCast S4x4096x16 (m ((c : Thread nD τ).loc main_arg3)) shapeCasts_S4x64x64x16_S4x4096x16)
      transposes_S4x4096x16_S4x16x4096_0_2_1 := by
    unfold V hostOps0; after_results; rfl
  rw [h]
  exact mat_apply _ _ _ l j k

/-- The second matrix array is the second input matrix laid the same way. -/
theorem V_mim (c : Dev nD) (l : Fin 4) (j : Fin 16) (k : Fin 4096) :
    V m c main_v8 (ix3 l j k) = m ((c : Thread nD τ).loc main_arg4) (ix4 l (grp k) (sta k) j) := by
  have h : V m c main_v8 = transpose S4x16x4096 [0, 2, 1] (shapeCast S4x4096x16 (m ((c : Thread nD τ).loc main_arg4)) shapeCasts_S4x64x64x16_S4x4096x16)
      transposes_S4x4096x16_S4x16x4096_0_2_1 := by
    unfold V hostOps0; after_results; rfl
  rw [h]
  exact mat_apply _ _ _ l j k

/-- Grid point `t` reads and writes block `t` of every array along the layers, and the whole of the other axes. -/
theorem idx_all : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- The layer of a grid point. -/
abbrev lay (t : Fin cfg0.N) : Fin 4 := ⟨t.val, lt_of_lt_of_eq t.isLt N_0⟩

/-- The first input block at `k`. -/
theorem iblk0_apply (c : Dev nD) (t : Fin cfg0.N) (k : Fin 4096) :
    (iblk m c 0 t : Vec Ideal S1x1x4096 .f32) (ix3 0 0 k) = m ((c : Thread nD τ).loc main_arg0) (ix3 (lay t) (grp k) (sta k)) := by
  obtain ⟨e0, e1, e2⟩ := (idx_all t).1
  unfold iblk
  rw [View.read_apply, ← V_re m c]
  show V m c main_v0 _ = _
  congr 1
  funext a
  apply Fin.ext
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 4096 + 1 * k.val = k.val; omega

/-- The second input block at `k`. -/
theorem iblk1_apply (c : Dev nD) (t : Fin cfg0.N) (k : Fin 4096) :
    (iblk m c 1 t : Vec Ideal S1x1x4096 .f32) (ix3 0 0 k) = m ((c : Thread nD τ).loc main_arg1) (ix3 (lay t) (grp k) (sta k)) := by
  obtain ⟨e0, e1, e2⟩ := (idx_all t).2.1
  unfold iblk
  rw [View.read_apply, ← V_im m c]
  show V m c main_v1 _ = _
  congr 1
  funext a
  apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 4096 + 1 * k.val = k.val; omega

/-- The third input block at `k`. -/
theorem iblk2_apply (c : Dev nD) (t : Fin cfg0.N) (k : Fin 4096) :
    (iblk m c 2 t : Vec Ideal S1x1x4096 .f32) (ix3 0 0 k) = m ((c : Thread nD τ).loc main_arg2) (ix2 (lay t) (grp k)) := by
  obtain ⟨e0, e1, e2⟩ := (idx_all t).2.2.1
  unfold iblk
  rw [View.read_apply, ← V_step m c]
  show V m c main_v4 _ = _
  congr 1
  funext a
  apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 4096 + 1 * k.val = k.val; omega

/-- The fourth input block at `(j, k)`. -/
theorem iblk3_apply (c : Dev nD) (t : Fin cfg0.N) (j : Fin 16) (k : Fin 4096) :
    (iblk m c 3 t : Vec Ideal S1x16x4096 .f32) (ix3 0 j k) = m ((c : Thread nD τ).loc main_arg3) (ix4 (lay t) (grp k) (sta k) j) := by
  obtain ⟨e0, e1, e2⟩ := (idx_all t).2.2.2.1
  unfold iblk
  rw [View.read_apply, ← V_mre m c]
  show V m c main_v6 _ = _
  congr 1
  funext a
  apply Fin.ext
  match a with
  | ⟨0, _⟩ => show win0_3.index t (0 : Fin 3) * 1 + 1 * 0 = t.val; omega
  | ⟨1, _⟩ => show win0_3.index t (1 : Fin 3) * 16 + 1 * j.val = j.val; omega
  | ⟨2, _⟩ => show win0_3.index t (2 : Fin 3) * 4096 + 1 * k.val = k.val; omega

/-- The fifth input block at `(j, k)`. -/
theorem iblk4_apply (c : Dev nD) (t : Fin cfg0.N) (j : Fin 16) (k : Fin 4096) :
    (iblk m c 4 t : Vec Ideal S1x16x4096 .f32) (ix3 0 j k) = m ((c : Thread nD τ).loc main_arg4) (ix4 (lay t) (grp k) (sta k) j) := by
  obtain ⟨e0, e1, e2⟩ := (idx_all t).2.2.2.2.1
  unfold iblk
  rw [View.read_apply, ← V_mim m c]
  show V m c main_v8 _ = _
  congr 1
  funext a
  apply Fin.ext
  match a with
  | ⟨0, _⟩ => show win0_4.index t (0 : Fin 3) * 1 + 1 * 0 = t.val; omega
  | ⟨1, _⟩ => show win0_4.index t (1 : Fin 3) * 16 + 1 * j.val = j.val; omega
  | ⟨2, _⟩ => show win0_4.index t (2 : Fin 3) * 4096 + 1 * k.val = k.val; omega

/-- A scalar function of the two coefficients and the step, at a layer and flat coordinate. -/
abbrev atRow (f : EReal → EReal → EReal → EReal) (c : Dev nD) (l : Fin 4) (k : Fin 4096) : EReal :=
  f (m ((c : Thread nD τ).loc main_arg0) (ix3 l (grp k) (sta k))) (m ((c : Thread nD τ).loc main_arg1) (ix3 l (grp k) (sta k)))
    (m ((c : Thread nD τ).loc main_arg2) (ix2 l (grp k)))

/-- A scalar function of those and the two entries of the input matrix, at a layer, input and flat coordinate. -/
abbrev atMat (f : EReal → EReal → EReal → EReal → EReal → EReal) (c : Dev nD) (l : Fin 4) (j : Fin 16) (k : Fin 4096) : EReal :=
  f (m ((c : Thread nD τ).loc main_arg0) (ix3 l (grp k) (sta k))) (m ((c : Thread nD τ).loc main_arg1) (ix3 l (grp k) (sta k)))
    (m ((c : Thread nD τ).loc main_arg2) (ix2 l (grp k))) (m ((c : Thread nD τ).loc main_arg3) (ix4 l (grp k) (sta k) j))
    (m ((c : Thread nD τ).loc main_arg4) (ix4 l (grp k) (sta k) j))

/-- The four results: real and imaginary part of the transition, then of the discretised input matrix. -/
def result0 (c : Dev nD) : Buf (Elt Ideal) ((c : Thread nD τ).loc main_v9_0) := fun i : S4x1x4096.Idx => (atRow m lamRe c (i 0) (i 2) : EReal)
def result1 (c : Dev nD) : Buf (Elt Ideal) ((c : Thread nD τ).loc main_v9_1) := fun i : S4x1x4096.Idx => (atRow m lamIm c (i 0) (i 2) : EReal)
def result2 (c : Dev nD) : Buf (Elt Ideal) ((c : Thread nD τ).loc main_v9_2) := fun i : S4x16x4096.Idx => (atMat m barRe c (i 0) (i 1) (i 2) : EReal)
def result3 (c : Dev nD) : Buf (Elt Ideal) ((c : Thread nD τ).loc main_v9_3) := fun i : S4x16x4096.Idx => (atMat m barIm c (i 0) (i 1) (i 2) : EReal)

/-- What a point writes back of the first result is its block of it. -/
theorem flushed5_eq (c : Dev nD) (t : Fin cfg0.N) :
    (dats m 0 c).flushed 5 t = ((cfg0.win 5).blk t).view.read (Elt Ideal) (result0 m c) := by
  rw [flushed5]
  obtain ⟨e0, e1, e2⟩ := (idx_all t).2.2.2.2.2.1
  funext y
  obtain ⟨z, z', k, rfl⟩ : ∃ (z z' : Fin 1) (k : Fin 4096), y = ix3 z z' k := ⟨y 0, y 1, y 2, eq_ix3 y⟩
  obtain rfl := Subsingleton.elim z 0
  obtain rfl := Subsingleton.elim z' 0
  rw [View.read_apply]
  refine (out5_apply _ _ _ _ _ k).trans ?_
  rw [iblk0_apply, iblk1_apply, iblk2_apply]
  show atRow m lamRe c _ _ = atRow m lamRe c _ _
  congr 1 <;> apply Fin.ext
  · show t.val = win0_5.index t (0 : Fin 3) * 1 + 1 * 0; omega
  · show k.val = win0_5.index t (2 : Fin 3) * 4096 + 1 * k.val; omega

/-- What a point writes back of the second result is its block of it. -/
theorem flushed6_eq (c : Dev nD) (t : Fin cfg0.N) :
    (dats m 0 c).flushed 6 t = ((cfg0.win 6).blk t).view.read (Elt Ideal) (result1 m c) := by
  rw [flushed6]
  obtain ⟨e0, e1, e2⟩ := (idx_all t).2.2.2.2.2.2.1
  funext y
  obtain ⟨z, z', k, rfl⟩ : ∃ (z z' : Fin 1) (k : Fin 4096), y = ix3 z z' k := ⟨y 0, y 1, y 2, eq_ix3 y⟩
  obtain rfl := Subsingleton.elim z 0
  obtain rfl := Subsingleton.elim z' 0
  rw [View.read_apply]
  refine (out6_apply _ _ _ _ _ k).trans ?_
  rw [iblk0_apply, iblk1_apply, iblk2_apply]
  show atRow m lamIm c _ _ = atRow m lamIm c _ _
  congr 1 <;> apply Fin.ext
  · show t.val = win0_6.index t (0 : Fin 3) * 1 + 1 * 0; omega
  · show k.val = win0_6.index t (2 : Fin 3) * 4096 + 1 * k.val; omega

/-- What a point writes back of the third result is its block of it. -/
theorem flushed7_eq (c : Dev nD) (t : Fin cfg0.N) :
    (dats m 0 c).flushed 7 t = ((cfg0.win 7).blk t).view.read (Elt Ideal) (result2 m c) := by
  rw [flushed7]
  obtain ⟨e0, e1, e2⟩ := (idx_all t).2.2.2.2.2.2.2.1
  funext y
  obtain ⟨z, j, k, rfl⟩ : ∃ (z : Fin 1) (j : Fin 16) (k : Fin 4096), y = ix3 z j k := ⟨y 0, y 1, y 2, eq_ix3 y⟩
  obtain rfl := Subsingleton.elim z 0
  rw [View.read_apply]
  refine (out7_apply _ _ _ _ _ j k).trans ?_
  rw [iblk0_apply, iblk1_apply, iblk2_apply, iblk3_apply, iblk4_apply]
  show atMat m barRe c _ _ _ = atMat m barRe c _ _ _
  congr 1 <;> apply Fin.ext
  · show t.val = win0_7.index t (0 : Fin 3) * 1 + 1 * 0; omega
  · show j.val = win0_7.index t (1 : Fin 3) * 16 + 1 * j.val; omega
  · show k.val = win0_7.index t (2 : Fin 3) * 4096 + 1 * k.val; omega

/-- What a point writes back of the fourth result is its block of it. -/
theorem flushed8_eq (c : Dev nD) (t : Fin cfg0.N) :
    (dats m 0 c).flushed 8 t = ((cfg0.win 8).blk t).view.read (Elt Ideal) (result3 m c) := by
  rw [flushed8]
  obtain ⟨e0, e1, e2⟩ := (idx_all t).2.2.2.2.2.2.2.2
  funext y
  obtain ⟨z, j, k, rfl⟩ : ∃ (z : Fin 1) (j : Fin 16) (k : Fin 4096), y = ix3 z j k := ⟨y 0, y 1, y 2, eq_ix3 y⟩
  obtain rfl := Subsingleton.elim z 0
  rw [View.read_apply]
  refine (out8_apply _ _ _ _ _ j k).trans ?_
  rw [iblk0_apply, iblk1_apply, iblk2_apply, iblk3_apply, iblk4_apply]
  show atMat m barIm c _ _ _ = atMat m barIm c _ _ _
  congr 1 <;> apply Fin.ext
  · show t.val = win0_8.index t (0 : Fin 3) * 1 + 1 * 0; omega
  · show j.val = win0_8.index t (1 : Fin 3) * 16 + 1 * j.val; omega
  · show k.val = win0_8.index t (2 : Fin 3) * 4096 + 1 * k.val; omega

/-- Every index of the first result lies in its layer's block. -/
theorem covered5 (i : S4x1x4096.Idx) : ∃ t : Fin cfg0.N, (cfg0.win 5).flush t = true ∧ i ∈ ((cfg0.win 5).blk t).view.set := by
  have h0 : (i 0).val < 4 := (i 0).isLt
  have h1 : (i 1).val < 1 := (i 1).isLt
  have h2 : (i 2).val < 4096 := (i 2).isLt
  have hN : cfg0.N = 4 := N_0
  obtain ⟨t, ht⟩ : ∃ t : Fin cfg0.N, t.val = (i 0).val := ⟨⟨(i 0).val, by omega⟩, rfl⟩
  obtain ⟨e0, e1, e2⟩ := (idx_all t).2.2.2.2.2.1
  refine ⟨t, flush0_5 t, ?_⟩
  show i ∈ ((View.whole main_v9_0).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 4096 ≤ (i 2).val ∧ (i 2).val < win0_5.index t (2 : Fin 3) * 4096 + 4096; omega

/-- Every index of the second result lies in its layer's block. -/
theorem covered6 (i : S4x1x4096.Idx) : ∃ t : Fin cfg0.N, (cfg0.win 6).flush t = true ∧ i ∈ ((cfg0.win 6).blk t).view.set := by
  have h0 : (i 0).val < 4 := (i 0).isLt
  have h1 : (i 1).val < 1 := (i 1).isLt
  have h2 : (i 2).val < 4096 := (i 2).isLt
  have hN : cfg0.N = 4 := N_0
  obtain ⟨t, ht⟩ : ∃ t : Fin cfg0.N, t.val = (i 0).val := ⟨⟨(i 0).val, by omega⟩, rfl⟩
  obtain ⟨e0, e1, e2⟩ := (idx_all t).2.2.2.2.2.2.1
  refine ⟨t, flush0_6 t, ?_⟩
  show i ∈ ((View.whole main_v9_1).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 4096 ≤ (i 2).val ∧ (i 2).val < win0_6.index t (2 : Fin 3) * 4096 + 4096; omega

/-- Every index of the third result lies in its layer's block. -/
theorem covered7 (i : S4x16x4096.Idx) : ∃ t : Fin cfg0.N, (cfg0.win 7).flush t = true ∧ i ∈ ((cfg0.win 7).blk t).view.set := by
  have h0 : (i 0).val < 4 := (i 0).isLt
  have h1 : (i 1).val < 16 := (i 1).isLt
  have h2 : (i 2).val < 4096 := (i 2).isLt
  have hN : cfg0.N = 4 := N_0
  obtain ⟨t, ht⟩ : ∃ t : Fin cfg0.N, t.val = (i 0).val := ⟨⟨(i 0).val, by omega⟩, rfl⟩
  obtain ⟨e0, e1, e2⟩ := (idx_all t).2.2.2.2.2.2.2.1
  refine ⟨t, flush0_7 t, ?_⟩
  show i ∈ ((View.whole main_v9_2).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 16 ≤ (i 1).val ∧ (i 1).val < win0_7.index t (1 : Fin 3) * 16 + 16; omega
  | ⟨2, _⟩ => show win0_7.index t (2 : Fin 3) * 4096 ≤ (i 2).val ∧ (i 2).val < win0_7.index t (2 : Fin 3) * 4096 + 4096; omega

/-- Every index of the fourth result lies in its layer's block. -/
theorem covered8 (i : S4x16x4096.Idx) : ∃ t : Fin cfg0.N, (cfg0.win 8).flush t = true ∧ i ∈ ((cfg0.win 8).blk t).view.set := by
  have h0 : (i 0).val < 4 := (i 0).isLt
  have h1 : (i 1).val < 16 := (i 1).isLt
  have h2 : (i 2).val < 4096 := (i 2).isLt
  have hN : cfg0.N = 4 := N_0
  obtain ⟨t, ht⟩ : ∃ t : Fin cfg0.N, t.val = (i 0).val := ⟨⟨(i 0).val, by omega⟩, rfl⟩
  obtain ⟨e0, e1, e2⟩ := (idx_all t).2.2.2.2.2.2.2.2
  refine ⟨t, flush0_8 t, ?_⟩
  show i ∈ ((View.whole main_v9_3).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 16 ≤ (i 1).val ∧ (i 1).val < win0_8.index t (1 : Fin 3) * 16 + 16; omega
  | ⟨2, _⟩ => show win0_8.index t (2 : Fin 3) * 4096 ≤ (i 2).val ∧ (i 2).val < win0_8.index t (2 : Fin 3) * 4096 + 4096; omega

/-- The kernel's run at the extended reals: the four result arrays are the four results, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v9_0) = result0 m c
      ∧ r.2.mem ((c : Thread nD τ).loc main_v9_1) = result1 m c
      ∧ r.2.mem ((c : Thread nD τ).loc main_v9_2) = result2 m c
      ∧ r.2.mem ((c : Thread nD τ).loc main_v9_3) = result3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).1.trans ((dats m 0 c).arrAt_eq_of_cover 5 _ (fun t _ => flushed5_eq m c t) covered5),
      (h c).2.1.trans ((dats m 0 c).arrAt_eq_of_cover 6 _ (fun t _ => flushed6_eq m c t) covered6),
      (h c).2.2.1.trans ((dats m 0 c).arrAt_eq_of_cover 7 _ (fun t _ => flushed7_eq m c t) covered7),
      (h c).2.2.2.1.trans ((dats m 0 c).arrAt_eq_of_cover 8 _ (fun t _ => flushed8_eq m c t) covered8),
      (h c).2.2.2.2⟩)
    (run_blocks m ρ)

end Cert.PrepIdeal.Tile

end
-- ==== Proof.PrepRef.lean ====
/- The state-space preparation's reference, read entry by entry over the extended reals. -/
module

public import proofs.«01_k».proof.Proof.PrepMath
public import proofs.«01_k».proof.Proof.Gen.PrepRefIdeal.Read

@[expose] public section

set_option maxRecDepth 16384

noncomputable section

namespace Cert.PrepRefIdeal.Tile

open Cert.PrepRefIdeal Cert.PrepRefIdeal.Gen Cert.PrepRefIdeal.Read Cert.Prep.Disc Idealize.ShloMosaic

variable (a b : Vec Ideal S4x64x64 .f32) (s : Vec Ideal S4x64 .f32) (u v : Vec Ideal S4x64x64x16 .f32)
  (l : Fin 4) (g p : Fin 64) (j : Fin 16) (k : Fin 4096)

/-- The real part of the transition of group `g`, state `p`. -/
theorem v8_apply : val_main_v8 (F := Ideal) a b s (ix3 l g p) = lamRe (a (ix3 l g p)) (b (ix3 l g p)) (s (ix2 l g)) := by
  pointwise [val_main_v8, val_main_v7, val_main_v6, val_main_v5, val_main_v4, val_main_v3, val_main_v2, val_main_v1, val_main_v0]

/-- Its imaginary part. -/
theorem v15_apply : val_main_v15 (F := Ideal) a b s (ix3 l g p) = lamIm (a (ix3 l g p)) (b (ix3 l g p)) (s (ix2 l g)) := by
  pointwise [val_main_v15, val_main_v14, val_main_v13, val_main_v12, val_main_v11, val_main_v10, val_main_v9, val_main_v1, val_main_v0]

/-- The real part of the quotient of group `g`, state `p`. -/
theorem v24_apply : val_main_v24 (F := Ideal) a b s (ix3 l g p) = quoRe (a (ix3 l g p)) (b (ix3 l g p)) (s (ix2 l g)) := by
  pointwise [val_main_v24, val_main_v23, val_main_v22, val_main_v21, val_main_v20, val_main_v19, val_main_v18, val_main_v17, val_main_v16, val_main_cst, v8_apply, v15_apply]

/-- Its imaginary part. -/
theorem v31_apply : val_main_v31 (F := Ideal) a b s (ix3 l g p) = quoIm (a (ix3 l g p)) (b (ix3 l g p)) (s (ix2 l g)) := by
  pointwise [val_main_v31, val_main_v30, val_main_v29, val_main_v28, val_main_v27, val_main_v26, val_main_v18, val_main_v17, val_main_v16, val_main_cst_0, v8_apply, v15_apply]

/-- The real part of the discretised input matrix. -/
theorem v37_apply : val_main_v37 (F := Ideal) a b s u v (ix4 l g p j)
    = barRe (a (ix3 l g p)) (b (ix3 l g p)) (s (ix2 l g)) (u (ix4 l g p j)) (v (ix4 l g p j)) := by
  pointwise [val_main_v37, val_main_v36, val_main_v35, val_main_v34, val_main_v33, val_main_v32, val_main_v25, v24_apply, v31_apply]

/-- Its imaginary part. -/
theorem v42_apply : val_main_v42 (F := Ideal) a b s u v (ix4 l g p j)
    = barIm (a (ix3 l g p)) (b (ix3 l g p)) (s (ix2 l g)) (u (ix4 l g p j)) (v (ix4 l g p j)) := by
  pointwise [val_main_v42, val_main_v41, val_main_v40, val_main_v39, val_main_v38, val_main_v32, val_main_v25, v24_apply, v31_apply]

end Cert.PrepRefIdeal.Tile

end
-- ==== Proof.PrepClaim.lean ====
/- The state-space preparation's value claim: over the extended reals the kernel and its reference end with the same
   four arrays. -/
module

public import proofs.«01_k».proof.Defs
public import proofs.«01_k».proof.Proof.PrepValue
public import proofs.«01_k».proof.Proof.PrepRef
public import Idealize.ShloMosaic.Lib.Quiescent

@[expose] public section

set_option maxRecDepth 16384

noncomputable section

namespace Cert.Proof

open Idealize.ShloMosaic Idealize.SL.Sem Cert.Prep.Disc

/-- From memories that agree on the arguments the preparation kernel and its reference end with equal results. -/
theorem algebraic_prep : Cert.algebraic_PrepIdeal_PrepRefIdeal := by
  intro m g m' g' _ hagree
  refine ⟨fun c => PrepIdeal.Tile.result0 m c, fun c => PrepIdeal.Tile.result1 m c, fun c => PrepIdeal.Tile.result2 m c,
    fun c => PrepIdeal.Tile.result3 m c, PrepIdeal.Tile.run m g, ?_⟩
  refine (θ_run _ _ _).mono (fun r h c => ?_) (PrepRefIdeal.Value.run (F := Ideal) m' g')
  obtain ⟨h0, h1, h2, h3, h4⟩ := hagree c
  refine ⟨(h c).1.trans ?_, (h c).2.1.trans ?_, (h c).2.2.1.trans ?_, (h c).2.2.2.1.trans ?_, (h c).2.2.2.2⟩
  · rw [h0, h1, h2]
    refine (PrepRefIdeal.Read.val_main_v43_eq _ _ _).trans ?_
    funext i
    obtain ⟨l, z, k, rfl⟩ : ∃ (l : Fin 4) (z : Fin 1) (k : Fin 4096), i = ix3 l z k := ⟨i 0, i 1, i 2, eq_ix3 i⟩
    obtain rfl := Subsingleton.elim z 0
    exact (row_apply _ _ l k).trans (PrepRefIdeal.Tile.v8_apply _ _ _ l (grp k) (sta k))
  · rw [h0, h1, h2]
    refine (PrepRefIdeal.Read.val_main_v44_eq _ _ _).trans ?_
    funext i
    obtain ⟨l, z, k, rfl⟩ : ∃ (l : Fin 4) (z : Fin 1) (k : Fin 4096), i = ix3 l z k := ⟨i 0, i 1, i 2, eq_ix3 i⟩
    obtain rfl := Subsingleton.elim z 0
    exact (row_apply _ _ l k).trans (PrepRefIdeal.Tile.v15_apply _ _ _ l (grp k) (sta k))
  · rw [h0, h1, h2, h3, h4]
    refine (PrepRefIdeal.Read.val_main_v46_eq _ _ _ _ _).trans ?_
    funext i
    obtain ⟨l, j, k, rfl⟩ : ∃ (l : Fin 4) (j : Fin 16) (k : Fin 4096), i = ix3 l j k := ⟨i 0, i 1, i 2, eq_ix3 i⟩
    exact (mat_apply _ _ _ l j k).trans (PrepRefIdeal.Tile.v37_apply _ _ _ _ _ l (grp k) (sta k) j)
  · rw [h0, h1, h2, h3, h4]
    refine (PrepRefIdeal.Read.val_main_v48_eq _ _ _ _ _).trans ?_
    funext i
    obtain ⟨l, j, k, rfl⟩ : ∃ (l : Fin 4) (j : Fin 16) (k : Fin 4096), i = ix3 l j k := ⟨i 0, i 1, i 2, eq_ix3 i⟩
    exact (mat_apply _ _ _ l j k).trans (PrepRefIdeal.Tile.v42_apply _ _ _ _ _ l (grp k) (sta k) j)

/-- The reference terminates with its arguments unchanged and no semaphore counted up (it declares none). -/
theorem frame_prepRef : Cert.quiescent_PrepRefIdeal := fun m g _ =>
  (θ_run _ _ _).mono (fun r h => ⟨fun c => (h c).2.2.2.2, sem_eq_zero_of_no_sems rfl r.2⟩) (PrepRefIdeal.Value.run (F := Ideal) m g)

end Cert.Proof

end
-- ==== Proof.lean ====
/- The claims about the four calls, put together. -/
module

public import proofs.«01_k».proof.Defs
public import proofs.«01_k».proof.Proof.ProjClaim
public import proofs.«01_k».proof.Proof.MlpClaim
public import proofs.«01_k».proof.Proof.Word.MlpFrame
public import proofs.«01_k».proof.Proof.Mid.MlpClaim
public import proofs.«01_k».proof.Proof.MidWord.MlpFrame
public import proofs.«01_k».proof.Proof.PrepClaim
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.ReferenceIdeal.Run
public import proofs.«01_k».proof.Proof.Gen.ReferenceIdeal.Read
public import proofs.«01_k».proof.Proof.Gen.MidRefIdeal.Run
public import proofs.«01_k».proof.Proof.Gen.MidRefIdeal.Read
public import proofs.«01_k».proof.Proof.Gen.Prep.Frame
public import proofs.«01_k».proof.Proof.Gen.PrepIdeal.Value
public import proofs.«01_k».proof.Proof.Gen.PrepRefIdeal.Run
public import proofs.«01_k».proof.Proof.Gen.PrepRefIdeal.Read

@[expose] public section

noncomputable section

namespace Cert.Proof

/-- All claims: the frames of the closing feed-forward call (kernel, idealized kernel, reference), of the projection, of
    the inner feed-forward call and of the state-space preparation; the four idealizations, which rewrite nothing; and the
    four value claims. -/
theorem claim : Cert.Claim := ⟨Cert.Kernel.Gen.facts, Cert.KernelIdeal.Gen.facts, Cert.ReferenceIdeal.Gen.facts,
  Cert.Proj.Gen.facts, Cert.ProjIdeal.Gen.facts, Cert.ProjRefIdeal.Gen.facts,
  Cert.Mid.Gen.facts, Cert.MidIdeal.Gen.facts, Cert.MidRefIdeal.Gen.facts,
  Cert.Prep.Gen.facts, Cert.PrepIdeal.Gen.facts, Cert.PrepRefIdeal.Gen.facts,
  fun m g _ => Cert.Kernel.Mlp.frame m g, fun m g _ => Cert.KernelIdeal.Mlp.frame m g, frame_mlpRef,
  fun m g _ => Cert.Proj.Gen.frame m g, fun m g _ => Cert.ProjIdeal.Gen.frame m g, frame_projRef,
  fun m g _ => Cert.Mid.Mlp.frame m g, fun m g _ => Cert.MidIdeal.Mlp.frame m g, frame_midRef,
  fun m g _ => Cert.Prep.Gen.frame m g, fun m g _ => Cert.PrepIdeal.Gen.frame m g, frame_prepRef,
  trivial, algebraic_mlp, trivial, algebraic_proj, trivial, algebraic_mid, trivial, algebraic_prep⟩

end Cert.Proof

end
